-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S4x1024x3072 : Shape := ⟨3, ![4, 1024, 3072]⟩
abbrev S4 : Shape := ⟨1, ![4]⟩
abbrev S1024x3072 : Shape := ⟨2, ![1024, 3072]⟩
abbrev S1024 : Shape := ⟨1, ![1024]⟩
abbrev S1024x1024 : Shape := ⟨2, ![1024, 1024]⟩
abbrev S1024x64x3 : Shape := ⟨3, ![1024, 64, 3]⟩
abbrev S100x1024 : Shape := ⟨2, ![100, 1024]⟩
abbrev S100 : Shape := ⟨1, ![100]⟩
abbrev S_ : Shape := ⟨0, ![]⟩

class Facts : Prop where
  bcast_S_S4x1024x3072 : S_.BroadcastsInDim S4x1024x3072 (![] : Fin 0 → Fin S4x1024x3072.rank)
  bcast_S_S1024x3072 : S_.BroadcastsInDim S1024x3072 (![] : Fin 0 → Fin S1024x3072.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4x1024x3072 .f32) (main_arg1 : FVec F S4 .f32) (main_arg2 : FVec F S1024x3072 .f32) (main_arg3 : FVec F S1024 .f32) (main_arg4 : FVec F S1024x1024 .f32) (main_arg5 : FVec F S1024x1024 .f32) (main_arg6 : FVec F S1024x3072 .f32) (main_arg7 : FVec F S1024 .f32) (main_arg8 : FVec F S1024x64x3 .f32) (main_arg9 : FVec F S1024 .f32) (main_arg10 : FVec F S1024x64x3 .f32) (main_arg11 : FVec F S1024 .f32) (main_arg12 : FVec F S1024 .f32) (main_arg13 : FVec F S1024 .f32) (main_arg14 : FVec F S100x1024 .f32) (main_arg15 : FVec F S100 .f32) : IVec S4x1024x3072 1 × IVec S1024x3072 1 × IVec S1024 1 × IVec S1024x1024 1 × IVec S1024x3072 1 × IVec S1024 1 :=
  let main_v0 : FVec F S4x1024x3072 .f32 := Host.absf main_arg0
  let main_cst : FVec F S_ .f32 := constant S_ .f32 0x7F800000#32
  let main_v1 : FVec F S4x1024x3072 .f32 := broadcastInDim S4x1024x3072 ![] bcast_S_S4x1024x3072 main_cst
  let main_v2 : IVec S4x1024x3072 1 := cmpf .olt main_v0 main_v1
  let main_v3 : FVec F S1024x3072 .f32 := Host.absf main_arg2
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x3072 .f32 := Host.absf main_arg6
  let main_cst_3 : FVec F S_ .f32 := constant S_ .f32 0x7F800000#32
  let main_v13 : FVec F S1024x3072 .f32 := broadcastInDim S1024x3072 ![] bcast_S_S1024x3072 main_cst_3
  let main_v14 : IVec S1024x3072 1 := cmpf .olt main_v12 main_v13
  let main_v15 : FVec F S1024 .f32 := Host.absf main_arg7
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Kernel.lean ====
abbrev S4x1024x3072 : Shape := ⟨3, ![4, 1024, 3072]⟩
abbrev S4 : Shape := ⟨1, ![4]⟩
abbrev S1024x3072 : Shape := ⟨2, ![1024, 3072]⟩
abbrev S1024 : Shape := ⟨1, ![1024]⟩
abbrev S1024x1024 : Shape := ⟨2, ![1024, 1024]⟩
abbrev S1024x64x3 : Shape := ⟨3, ![1024, 64, 3]⟩
abbrev S100x1024 : Shape := ⟨2, ![100, 1024]⟩
abbrev S100 : Shape := ⟨1, ![100]⟩
abbrev S1x1024 : Shape := ⟨2, ![1, 1024]⟩
abbrev S1024x192 : Shape := ⟨2, ![1024, 192]⟩
abbrev S2x4x768x256 : Shape := ⟨4, ![2, 4, 768, 256]⟩
abbrev S1024x768 : Shape := ⟨2, ![1024, 768]⟩
abbrev S192x192 : Shape := ⟨2, ![192, 192]⟩
abbrev S64x64 : Shape := ⟨2, ![64, 64]⟩
abbrev S1x1x64x64 : Shape := ⟨4, ![1, 1, 64, 64]⟩
abbrev S100x1 : Shape := ⟨2, ![100, 1]⟩
abbrev S4x100x1024 : Shape := ⟨3, ![4, 100, 1024]⟩
abbrev S1x1024x1536 : Shape := ⟨3, ![1, 1024, 1536]⟩
abbrev S1024x1536 : Shape := ⟨2, ![1024, 1536]⟩
abbrev S1x100x1024 : Shape := ⟨3, ![1, 100, 1024]⟩
abbrev S2x1024x1536 : Shape := ⟨3, ![2, 1024, 1536]⟩
abbrev S1024x256 : Shape := ⟨2, ![1024, 256]⟩
abbrev S1x256 : Shape := ⟨2, ![1, 256]⟩
abbrev S1x1x768x256 : Shape := ⟨4, ![1, 1, 768, 256]⟩
abbrev S768x256 : Shape := ⟨2, ![768, 256]⟩
abbrev S1023x256 : Shape := ⟨2, ![1023, 256]⟩
abbrev S1024x1 : Shape := ⟨2, ![1024, 1]⟩

abbrev nBuf : Space → Nat
  | .hbm => 30
  | .vmem => 33
  | .smem => 0
  | _ => 0

abbrev bufTy : (tb : Table) → Fin (tcTables nBuf tb) → BufTy
  | .hbm, ⟨0, _⟩ => ⟨S4x1024x3072, .f32⟩
  | .hbm, ⟨1, _⟩ => ⟨S4, .f32⟩
  | .hbm, ⟨2, _⟩ => ⟨S1024x3072, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x3072, .f32⟩
  | .hbm, ⟨7, _⟩ => ⟨S1024, .f32⟩
  | .hbm, ⟨8, _⟩ => ⟨S1024x64x3, .f32⟩
  | .hbm, ⟨9, _⟩ => ⟨S1024, .f32⟩
  | .hbm, ⟨10, _⟩ => ⟨S1024x64x3, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S100x1024, .f32⟩
  | .hbm, ⟨15, _⟩ => ⟨S100, .f32⟩
  | .hbm, ⟨16, _⟩ => ⟨S1x1024, .f32⟩
  | .hbm, ⟨17, _⟩ => ⟨S1024x192, .f32⟩
  | .hbm, ⟨18, _⟩ => ⟨S1024x192, .f32⟩
  | .hbm, ⟨19, _⟩ => ⟨S1024x1024, .bf16⟩
  | .hbm, ⟨20, _⟩ => ⟨S1024x3072, .bf16⟩
  | .hbm, ⟨21, _⟩ => ⟨S100x1024, .bf16⟩
  | .hbm, ⟨22, _⟩ => ⟨S2x4x768x256, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S100x1, .f32⟩
  | .hbm, ⟨29, _⟩ => ⟨S4x100x1024, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S100x1024, .f32⟩
  | .local _ .vmem, ⟨8, _⟩ => ⟨S1024x192, .f32⟩
  | .local _ .vmem, ⟨9, _⟩ => ⟨S1024x192, .f32⟩
  | .local _ .vmem, ⟨10, _⟩ => ⟨S1024x1024, .bf16⟩
  | .local _ .vmem, ⟨11, _⟩ => ⟨S1024x768, .bf16⟩
  | .local _ .vmem, ⟨12, _⟩ => ⟨S1024x768, .bf16⟩
  | .local _ .vmem, ⟨13, _⟩ => ⟨S100x1024, .bf16⟩
  | .local _ .vmem, ⟨14, _⟩ => ⟨S2x4x768x256, .bf16⟩
  | .local _ .vmem, ⟨15, _⟩ => ⟨S1024x1024, .f32⟩
  | .local _ .vmem, ⟨16, _⟩ => ⟨S1x1024x1536, .f32⟩
  | .local _ .vmem, ⟨17, _⟩ => ⟨S1x1024x1536, .f32⟩
  | .local _ .vmem, ⟨18, _⟩ => ⟨S1024x1536, .bf16⟩
  | .local _ .vmem, ⟨19, _⟩ => ⟨S1024x1536, .bf16⟩
  | .local _ .vmem, ⟨20, _⟩ => ⟨S1x1024, .f32⟩
  | .local _ .vmem, ⟨21, _⟩ => ⟨S1024x1024, .bf16⟩
  | .local _ .vmem, ⟨22, _⟩ => ⟨S2x4x768x256, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S100x1024, .bf16⟩
  | .local _ .vmem, ⟨28, _⟩ => ⟨S100x1, .f32⟩
  | .local _ .vmem, ⟨29, _⟩ => ⟨S1x100x1024, .f32⟩
  | .local _ .vmem, ⟨30, _⟩ => ⟨S1x100x1024, .f32⟩
  | .local _ .vmem, ⟨31, _⟩ => ⟨S1024x1024, .f32⟩
  | .local _ .vmem, ⟨32, _⟩ => ⟨S2x1024x1536, .bf16⟩
  | _, _ => ⟨S4x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S100x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4x768x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![4, 2], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg1 : BitVec 32 := BitVec.ofNat 32 (i 1).val
  let v18 : Index := Scalar.indexCast arg1
  let c0_10 : Index := 0#32
  let c0_11 : Index := 0#32
  ![v18.toNat, 0, 0]
def k1_off2 (i : grid1.Coords) : Fin 3 → Nat :=
  let arg1 : BitVec 32 := BitVec.ofNat 32 (i 1).val
  let v6 : Index := Scalar.indexCast arg1
  let c0_3 : Index := 0#32
  let c0_4 : Index := 0#32
  ![v6.toNat, 0, 0]
def k1_cond5 (i : grid1.Coords) : BitVec 1 :=
  let arg1 : BitVec 32 := BitVec.ofNat 32 (i 1).val
  let c1_i32_6 : BitVec 32 := 1#32
  let v13 : BitVec 1 := Scalar.cmpi .eq arg1 c1_i32_6
  let v14 : BitVec 32 := Scalar.extui v13
  let c0_i32_7 : BitVec 32 := 0#32
  let v15 : BitVec 1 := Scalar.cmpi .ne v14 c0_i32_7
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![c0_i32_0.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2x4x768x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S100x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S100x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x100x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S4x1024x3072 : Shape := ⟨3, ![4, 1024, 3072]⟩
abbrev S4 : Shape := ⟨1, ![4]⟩
abbrev S1024x3072 : Shape := ⟨2, ![1024, 3072]⟩
abbrev S1024 : Shape := ⟨1, ![1024]⟩
abbrev S1024x1024 : Shape := ⟨2, ![1024, 1024]⟩
abbrev S1024x64x3 : Shape := ⟨3, ![1024, 64, 3]⟩
abbrev S100x1024 : Shape := ⟨2, ![100, 1024]⟩
abbrev S100 : Shape := ⟨1, ![100]⟩
abbrev S4x1024x1024 : Shape := ⟨3, ![4, 1024, 1024]⟩
abbrev S1x1x1024 : Shape := ⟨3, ![1, 1, 1024]⟩
abbrev S3072x1024 : Shape := ⟨2, ![3072, 1024]⟩
abbrev S1x1024 : Shape := ⟨2, ![1, 1024]⟩
abbrev S_ : Shape := ⟨0, ![]⟩
abbrev S4x1026x1024 : Shape := ⟨3, ![4, 1026, 1024]⟩
abbrev S4x16x1024x64 : Shape := ⟨4, ![4, 16, 1024, 64]⟩
abbrev S16x64x64x3 : Shape := ⟨4, ![16, 64, 64, 3]⟩
abbrev S4x1024x16x64 : Shape := ⟨4, ![4, 1024, 16, 64]⟩
abbrev S16x64x64x1 : Shape := ⟨4, ![16, 64, 64, 1]⟩
abbrev S16x64x64 : Shape := ⟨3, ![16, 64, 64]⟩
abbrev S16x64x4x1024 : Shape := ⟨4, ![16, 64, 4, 1024]⟩
abbrev S4x1024 : Shape := ⟨2, ![4, 1024]⟩
abbrev S4x1024x1 : Shape := ⟨3, ![4, 1024, 1]⟩
abbrev S4x1024x100 : Shape := ⟨3, ![4, 1024, 100]⟩
abbrev S1x1x100 : Shape := ⟨3, ![1, 1, 100]⟩
abbrev S4x100x1024 : Shape := ⟨3, ![4, 100, 1024]⟩

abbrev nBuf : Space → Nat
  | .hbm => 150
  | .vmem => 0
  | .smem => 0
  | _ => 0

abbrev hbmTy0_0 (i : Nat) : BufTy := match i % 128 with
  | 0 => ⟨S4x1024x3072, .f32⟩
  | 1 => ⟨S4, .f32⟩
  | 2 => ⟨S1024x3072, .f32⟩
  | 3 => ⟨S1024, .f32⟩
  | 4 => ⟨S1024x1024, .f32⟩
  | 5 => ⟨S1024x1024, .f32⟩
  | 6 => ⟨S1024x3072, .f32⟩
  | 7 => ⟨S1024, .f32⟩
  | 8 => ⟨S1024x64x3, .f32⟩
  | 9 => ⟨S1024, .f32⟩
  | 10 => ⟨S1024x64x3, .f32⟩
  | 11 => ⟨S1024, .f32⟩
  | 12 => ⟨S1024, .f32⟩
  | 13 => ⟨S1024, .f32⟩
  | 14 => ⟨S100x1024, .f32⟩
  | 15 => ⟨S100, .f32⟩
  | 16 => ⟨S4x1024x1024, .f32⟩
  | 17 => ⟨S1x1x1024, .f32⟩
  | 18 => ⟨S4x1024x1024, .f32⟩
  | 19 => ⟨S4x1024x1024, .f32⟩
  | 20 => ⟨S3072x1024, .f32⟩
  | 21 => ⟨S1024x1024, .f32⟩
  | 22 => ⟨S1x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S1024x1024, .f32⟩
  | 37 => ⟨S4x1024x1024, .f32⟩
  | 38 => ⟨S4x1024x1024, .f32⟩
  | 39 => ⟨S4x1024x1024, .f32⟩
  | 40 => ⟨S_, .i32⟩
  | 41 => ⟨S_, .f32⟩
  | 42 => ⟨S4x1026x1024, .f32⟩
  | 43 => ⟨S_, .f32⟩
  | 44 => ⟨S4x16x1024x64, .f32⟩
  | 45 => ⟨S16x64x64x3, .f32⟩
  | 46 => ⟨S4x1024x1024, .f32⟩
  | 47 => ⟨S4x1024x16x64, .f32⟩
  | 48 => ⟨S16x64x64x1, .f32⟩
  | 49 => ⟨S16x64x64, .f32⟩
  | 50 => ⟨S16x64x4x1024, .f32⟩
  | 51 => ⟨S4x16x1024x64, .f32⟩
  | 52 => ⟨S4x16x1024x64, .f32⟩
  | 53 => ⟨S4x1024x1024, .f32⟩
  | 54 => ⟨S4x1024x16x64, .f32⟩
  | 55 => ⟨S16x64x64x1, .f32⟩
  | 56 => ⟨S16x64x64, .f32⟩
  | 57 => ⟨S16x64x4x1024, .f32⟩
  | 58 => ⟨S4x16x1024x64, .f32⟩
  | 59 => ⟨S4x16x1024x64, .f32⟩
  | 60 => ⟨S4x1024x1024, .f32⟩
  | 61 => ⟨S4x1024x16x64, .f32⟩
  | 62 => ⟨S16x64x64x1, .f32⟩
  | 63 => ⟨S16x64x64, .f32⟩
  | 64 => ⟨S16x64x4x1024, .f32⟩
  | 65 => ⟨S4x16x1024x64, .f32⟩
  | 66 => ⟨S4x16x1024x64, .f32⟩
  | 67 => ⟨S4x1024x16x64, .f32⟩
  | 68 => ⟨S4x1024x1024, .f32⟩
  | 69 => ⟨S1x1x1024, .f32⟩
  | 70 => ⟨S4x1024x1024, .f32⟩
  | 71 => ⟨S4x1024x1024, .f32⟩
  | 72 => ⟨S_, .f32⟩
  | 73 => ⟨S4x1024x1024, .f32⟩
  | 74 => ⟨S4x1024x1024, .f32⟩
  | 75 => ⟨S_, .f32⟩
  | 76 => ⟨S_, .f32⟩
  | 77 => ⟨S4x1024x1024, .f32⟩
  | 78 => ⟨S4x1024x1024, .f32⟩
  | 79 => ⟨S4x1024x1024, .f32⟩
  | 80 => ⟨S_, .f32⟩
  | 81 => ⟨S4x1024x1024, .f32⟩
  | 82 => ⟨S4x1024x1024, .f32⟩
  | 83 => ⟨S4x1024x1024, .f32⟩
  | 84 => ⟨S_, .i32⟩
  | 85 => ⟨S_, .f32⟩
  | 86 => ⟨S4x1026x1024, .f32⟩
  | 87 => ⟨S_, .f32⟩
  | 88 => ⟨S4x16x1024x64, .f32⟩
  | 89 => ⟨S16x64x64x3, .f32⟩
  | 90 => ⟨S4x1024x1024, .f32⟩
  | 91 => ⟨S4x1024x16x64, .f32⟩
  | 92 => ⟨S16x64x64x1, .f32⟩
  | 93 => ⟨S16x64x64, .f32⟩
  | 94 => ⟨S16x64x4x1024, .f32⟩
  | 95 => ⟨S4x16x1024x64, .f32⟩
  | 96 => ⟨S4x16x1024x64, .f32⟩
  | 97 => ⟨S4x1024x1024, .f32⟩
  | 98 => ⟨S4x1024x16x64, .f32⟩
  | 99 => ⟨S16x64x64x1, .f32⟩
  | 100 => ⟨S16x64x64, .f32⟩
  | 101 => ⟨S16x64x4x1024, .f32⟩
  | 102 => ⟨S4x16x1024x64, .f32⟩
  | 103 => ⟨S4x16x1024x64, .f32⟩
  | 104 => ⟨S4x1024x1024, .f32⟩
  | 105 => ⟨S4x1024x16x64, .f32⟩
  | 106 => ⟨S16x64x64x1, .f32⟩
  | 107 => ⟨S16x64x64, .f32⟩
  | 108 => ⟨S16x64x4x1024, .f32⟩
  | 109 => ⟨S4x16x1024x64, .f32⟩
  | 110 => ⟨S4x16x1024x64, .f32⟩
  | 111 => ⟨S4x1024x16x64, .f32⟩
  | 112 => ⟨S4x1024x1024, .f32⟩
  | 113 => ⟨S1x1x1024, .f32⟩
  | 114 => ⟨S4x1024x1024, .f32⟩
  | 115 => ⟨S4x1024x1024, .f32⟩
  | 116 => ⟨S_, .f32⟩
  | 117 => ⟨S4x1024, .f32⟩
  | 118 => ⟨S4x1024x1, .f32⟩
  | 119 => ⟨S_, .f32⟩
  | 120 => ⟨S4x1024x1, .f32⟩
  | 121 => ⟨S4x1024x1, .f32⟩
  | 122 => ⟨S4x1024x1024, .f32⟩
  | 123 => ⟨S4x1024x1024, .f32⟩
  | 124 => ⟨S4x1024x1024, .f32⟩
  | 125 => ⟨S_, .f32⟩
  | 126 => ⟨S4x1024, .f32⟩
  | 127 => ⟨S4x1024x1, .f32⟩
  | _ => ⟨S4x1024x3072, .f32⟩

abbrev hbmTy0_1 (i : Nat) : BufTy := match i % 128 with
  | 0 => ⟨S_, .f32⟩
  | 1 => ⟨S4x1024x1, .f32⟩
  | 2 => ⟨S4x1024x1, .f32⟩
  | 3 => ⟨S4x1024x1024, .f32⟩
  | 4 => ⟨S4x1024x1024, .f32⟩
  | 5 => ⟨S_, .f32⟩
  | 6 => ⟨S4x1024x1, .f32⟩
  | 7 => ⟨S4x1024x1, .f32⟩
  | 8 => ⟨S4x1024x1, .f32⟩
  | 9 => ⟨S4x1024x1024, .f32⟩
  | 10 => ⟨S4x1024x1024, .f32⟩
  | 11 => ⟨S1x1x1024, .f32⟩
  | 12 => ⟨S4x1024x1024, .f32⟩
  | 13 => ⟨S4x1024x1024, .f32⟩
  | 14 => ⟨S1x1x1024, .f32⟩
  | 15 => ⟨S4x1024x1024, .f32⟩
  | 16 => ⟨S4x1024x1024, .f32⟩
  | 17 => ⟨S4x1024x100, .f32⟩
  | 18 => ⟨S1x1x100, .f32⟩
  | 19 => ⟨S4x1024x100, .f32⟩
  | 20 => ⟨S4x1024x100, .f32⟩
  | 21 => ⟨S4x100x1024, .f32⟩
  | _ => ⟨S4x1024x3072, .f32⟩

abbrev hbmTy (i : Nat) : BufTy := match i / 128 with
  | 0 => hbmTy0_0 i
  | 1 => hbmTy0_1 i
  | _ => ⟨S4x1024x3072, .f32⟩

abbrev bufTy : (tb : Table) → Fin (tcTables nBuf tb) → BufTy
  | .hbm, ⟨i, _⟩ => hbmTy i
  | _, _ => ⟨S4x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_call0_v0 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_2 : Ref sig .tc := ⟨.hbm, 72, rfl⟩
abbrev main_v51 : Ref sig .tc := ⟨.hbm, 73, rfl⟩
abbrev main_v52 : Ref sig .tc := ⟨.hbm, 74, rfl⟩
abbrev main_cst_3 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_5 : Ref sig .tc := ⟨.hbm, 84, rfl⟩
abbrev main_call1_v0 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_7 : Ref sig .tc := ⟨.hbm, 116, rfl⟩
abbrev main_v89 : Ref sig .tc := ⟨.hbm, 117, rfl⟩
abbrev main_v90 : Ref sig .tc := ⟨.hbm, 118, rfl⟩
abbrev main_cst_8 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_9 : Ref sig .tc := ⟨.hbm, 125, rfl⟩
abbrev main_v96 : Ref sig .tc := ⟨.hbm, 126, rfl⟩
abbrev main_v97 : Ref sig .tc := ⟨.hbm, 127, rfl⟩
abbrev main_cst_10 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_11 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩

abbrev nD : Nat := 1
abbrev τ : Topo := Topo.v7x

variable {F : FTy → Type} [FloatOps F]
-- ==== Proof.Shared.lean ====
/- Small facts about reading a whole buffer after it was written, used by every run of a kernel body. -/
module

public import Idealize.ShloMosaic.Lib.Pipeline.FrameBody
public import Idealize.ShloMosaic.Lib.Pipeline.Value
public import Idealize.ShloMosaic.Lib.VecWindow
public import Idealize.ShloMosaic.Lib.WholeRead
public import Idealize.ShloMosaic.Lib.Writes

@[expose] public section

namespace Cert.Shared

open Idealize.ShloMosaic

variable {Val : EltTy → Type} [∀ e, Nonempty (Val e)] {sig : RefSig} {κ : Kind} {sp : Space} {S : Shape} {e : EltTy}

/-- A box as large as the shape it lies in starts at zero on every axis. -/
theorem off_zero {off : Fin S.rank → ℕ} (inb : ∀ a, off a + S.size a ≤ S.size a) : off = fun _ => 0 :=
  funext fun a => by have := inb a; omega

/-- Reading a buffer whose whole extent was overwritten last gives what was written. -/
theorem read_store (v : View sig κ sp S e) (f : v.ty.Contents Val) {off : Fin S.rank → ℕ}
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y =>
    ⟨_, List.mem_cons_self, View.mem_set_unit_zero (off_zero inb) inb y⟩).trans
    (View.canon_cons_unit_zero (off_zero inb) inb w L)

/-- Loading the whole extent after it was overwritten gives what was written. -/
theorem readCov_store (v : View sig κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w :=
  (View.readAt_full v _ inb').trans (read_store v _ inb w L)

end Cert.Shared
-- ==== Proof.KernelIdeal.PrepRuns.lean ====
/- The preparing call: its branch conditions, and what one run of its body does in each of the three cases its
   conditions allow (first point, middle points, last point). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared

@[expose] public section

set_option maxRecDepth 16384

noncomputable section

namespace Cert.KernelIdeal.Prep

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions, over the grid's points -/

/-- The condition of the first branch: the point is the first. -/
abbrev cond0_0 (i : grid0.Coords) : Prop := (Scalar.cmpi .ne (Scalar.extui (Scalar.cmpi .eq (BitVec.ofNat 32 (i 0).val) 0#32)) 0#32) = 1#1
/-- The first branch is taken at the first point only. -/
theorem hcond0_0 : ∀ t : Fin cfg0.N, cond0_0 (grid0.coords t) ↔ t.val = 0 :=
  (by decide +kernel : ∀ t : Fin grid0.N, cond0_0 (grid0.coords t) ↔ t.val = 0)
/-- The condition of the second branch: the point is not the first. -/
abbrev cond0_1 (i : grid0.Coords) : Prop := (Scalar.cmpi .ne (Scalar.extui (Scalar.cmpi .sgt (BitVec.ofNat 32 (i 0).val) 0#32)) 0#32) = 1#1
/-- The second branch is taken from point 1 on. -/
theorem hcond0_1 : ∀ t : Fin cfg0.N, cond0_1 (grid0.coords t) ↔ t.val ≠ 0 :=
  (by decide +kernel : ∀ t : Fin grid0.N, cond0_1 (grid0.coords t) ↔ t.val ≠ 0)
/-- The condition of the third branch: the point is the last. -/
abbrev cond0_2 (i : grid0.Coords) : Prop := k0_cond3 i = 1#1
/-- The third branch is taken at the last point only. -/
theorem hcond0_2 : ∀ t : Fin cfg0.N, cond0_2 (grid0.coords t) ↔ t.val = 3 :=
  (by decide +kernel : ∀ t : Fin grid0.N, cond0_2 (grid0.coords t) ↔ t.val = 3)

/-- Loading a whole buffer reads its contents. -/
theorem ld_S1024x768_f32 (a : Memref sig .tc .vmem S1024x768 .f32) (h : a.IsWhole) (inb : ∀ q, (![0, 0] : Fin S1024x768.rank → ℕ) q + (![1024, 768] : Fin S1024x768.rank → ℕ) q ≤ S1024x768.size q) (x : Vec F S1024x768 .f32) :
    View.readAt (Elt F) a.view (Rect.unit (s := S1024x768) ![0, 0] ![1024, 768] inb).toLoadRect (h.unread x) = x :=
  (View.readAt_full a.view _ (fun q => by have := inb q; fin_cases q <;> simp_all [S1024x768])).trans (h.read_unread x)
/-- Loading a whole buffer reads its contents. -/
theorem ld_S1x1024_f32 (a : Memref sig .tc .vmem S1x1024 .f32) (h : a.IsWhole) (inb : ∀ q, (![0, 0] : Fin S1x1024.rank → ℕ) q + (![1, 1024] : Fin S1x1024.rank → ℕ) q ≤ S1x1024.size q) (x : Vec F S1x1024 .f32) :
    View.readAt (Elt F) a.view (Rect.unit (s := S1x1024) ![0, 0] ![1, 1024] inb).toLoadRect (h.unread x) = x :=
  (View.readAt_full a.view _ (fun q => by have := inb q; fin_cases q <;> simp_all [S1x1024])).trans (h.read_unread x)
/-- Loading a whole buffer reads its contents. -/
theorem ld_S1024x1024_f32 (a : Memref sig .tc .vmem S1024x1024 .f32) (h : a.IsWhole) (inb : ∀ q, (![0, 0] : Fin S1024x1024.rank → ℕ) q + (![1024, 1024] : Fin S1024x1024.rank → ℕ) q ≤ S1024x1024.size q) (x : Vec F S1024x1024 .f32) :
    View.readAt (Elt F) a.view (Rect.unit (s := S1024x1024) ![0, 0] ![1024, 1024] inb).toLoadRect (h.unread x) = x :=
  (View.readAt_full a.view _ (fun q => by have := inb q; fin_cases q <;> simp_all [S1024x1024])).trans (h.read_unread x)
/-- Loading a whole buffer after it was overwritten reads what was written. -/
theorem cov_S1024x1024_f32 (a : Memref sig .tc .vmem S1024x1024 .f32) (inb : ∀ q, (![0, 0] : Fin S1024x1024.rank → ℕ) q + (![1024, 1024] : Fin S1024x1024.rank → ℕ) q ≤ S1024x1024.size q) (inb' : ∀ q, (![0, 0] : Fin S1024x1024.rank → ℕ) q + S1024x1024.size q ≤ S1024x1024.size q) (w : Vec F S1024x1024 .f32) (L : List (View.Piece (Elt F) S1024x1024 .f32)) :
    a.view.readCov ((⟨Rect.unit (s := S1024x1024) ![0, 0] S1024x1024.size inb', w⟩ : View.Piece (Elt F) S1024x1024 .f32) :: L) (Rect.unit (s := S1024x1024) ![0, 0] ![1024, 1024] inb).toLoadRect = w :=
  Cert.Shared.readCov_store a.view inb' (fun q => by have := inb' q; fin_cases q <;> simp_all [S1024x1024]) w L
/-- Loading a whole buffer reads its contents. -/
theorem ld_S100x1024_f32 (a : Memref sig .tc .vmem S100x1024 .f32) (h : a.IsWhole) (inb : ∀ q, (![0, 0] : Fin S100x1024.rank → ℕ) q + (![100, 1024] : Fin S100x1024.rank → ℕ) q ≤ S100x1024.size q) (x : Vec F S100x1024 .f32) :
    View.readAt (Elt F) a.view (Rect.unit (s := S100x1024) ![0, 0] ![100, 1024] inb).toLoadRect (h.unread x) = x :=
  (View.readAt_full a.view _ (fun q => by have := inb q; fin_cases q <;> simp_all [S100x1024])).trans (h.read_unread x)
/-- Loading a whole buffer reads its contents. -/
theorem ld_S1024x192_f32 (a : Memref sig .tc .vmem S1024x192 .f32) (h : a.IsWhole) (inb : ∀ q, (![0, 0] : Fin S1024x192.rank → ℕ) q + (![1024, 192] : Fin S1024x192.rank → ℕ) q ≤ S1024x192.size q) (x : Vec F S1024x192 .f32) :
    View.readAt (Elt F) a.view (Rect.unit (s := S1024x192) ![0, 0] ![1024, 192] inb).toLoadRect (h.unread x) = x :=
  (View.readAt_full a.view _ (fun q => by have := inb q; fin_cases q <;> simp_all [S1024x192])).trans (h.read_unread x)
/-- Loading a whole buffer reads its contents. -/
theorem ld_S1024x1024_bf16 (a : Memref sig .tc .vmem S1024x1024 .bf16) (h : a.IsWhole) (inb : ∀ q, (![0, 0] : Fin S1024x1024.rank → ℕ) q + (![1024, 1024] : Fin S1024x1024.rank → ℕ) q ≤ S1024x1024.size q) (x : Vec F S1024x1024 .bf16) :
    View.readAt (Elt F) a.view (Rect.unit (s := S1024x1024) ![0, 0] ![1024, 1024] inb).toLoadRect (h.unread x) = x :=
  (View.readAt_full a.view _ (fun q => by have := inb q; fin_cases q <;> simp_all [S1024x1024])).trans (h.read_unread x)
/-- Loading a whole buffer reads its contents. -/
theorem ld_S1024x768_bf16 (a : Memref sig .tc .vmem S1024x768 .bf16) (h : a.IsWhole) (inb : ∀ q, (![0, 0] : Fin S1024x768.rank → ℕ) q + (![1024, 768] : Fin S1024x768.rank → ℕ) q ≤ S1024x768.size q) (x : Vec F S1024x768 .bf16) :
    View.readAt (Elt F) a.view (Rect.unit (s := S1024x768) ![0, 0] ![1024, 768] inb).toLoadRect (h.unread x) = x :=
  (View.readAt_full a.view _ (fun q => by have := inb q; fin_cases q <;> simp_all [S1024x768])).trans (h.read_unread x)
/-- Loading a whole buffer reads its contents. -/
theorem ld_S100x1024_bf16 (a : Memref sig .tc .vmem S100x1024 .bf16) (h : a.IsWhole) (inb : ∀ q, (![0, 0] : Fin S100x1024.rank → ℕ) q + (![100, 1024] : Fin S100x1024.rank → ℕ) q ≤ S100x1024.size q) (x : Vec F S100x1024 .bf16) :
    View.readAt (Elt F) a.view (Rect.unit (s := S100x1024) ![0, 0] ![100, 1024] inb).toLoadRect (h.unread x) = x :=
  (View.readAt_full a.view _ (fun q => by have := inb q; fin_cases q <;> simp_all [S100x1024])).trans (h.read_unread x)
/-- Loading a whole buffer reads its contents. -/
theorem ld_S2x4x768x256_bf16 (a : Memref sig .tc .vmem S2x4x768x256 .bf16) (h : a.IsWhole) (inb : ∀ q, (![0, 0, 0, 0] : Fin S2x4x768x256.rank → ℕ) q + (![2, 4, 768, 256] : Fin S2x4x768x256.rank → ℕ) q ≤ S2x4x768x256.size q) (x : Vec F S2x4x768x256 .bf16) :
    View.readAt (Elt F) a.view (Rect.unit (s := S2x4x768x256) ![0, 0, 0, 0] ![2, 4, 768, 256] inb).toLoadRect (h.unread x) = x :=
  (View.readAt_full a.view _ (fun q => by have := inb q; fin_cases q <;> simp_all [S2x4x768x256])).trans (h.read_unread x)

/-- The 0/1 table that regroups a convolution's taps, as the body builds it. -/
def permTab : FVec F S192x192 .bf16 := (k0_pay10 (F := F) (iota .tc S192x192 32 [0] iota_S192x192_d0_w32) k0_pay7 (Scalar.select (Scalar.cmpi .eq 64#32 0#32) 1#32 64#32) k0_pay8 k0_pay9)
/-- The first convolution's weights, taps regrouped. -/
def wt1 (x6 : Vec F S1024x192 .f32) : Vec F S1024x192 .f32 := (k0_pay12 (iota .tc S192x192 32 [0] iota_S192x192_d0_w32) k0_pay7 (Scalar.select (Scalar.cmpi .eq 64#32 0#32) 1#32 64#32) k0_pay8 k0_pay9 x6)
/-- The second convolution's weights, taps regrouped. -/
def wt2 (x7 : Vec F S1024x192 .f32) : Vec F S1024x192 .f32 := (k0_pay69 permTab x7)
/-- The stores into the block-diagonal convolution table, last first: 96 diagonal blocks over zeros. -/
def cwPieces (x6 x7 : Vec F S1024x192 .f32) : List (View.Piece (Elt F) S2x4x768x256 .bf16) :=
  [⟨(Rect.unit (s := S2x4x768x256) ![1, 3, 704, 192] S1x1x64x64.size inb_S2x4x768x256_S1x1x64x64_1_3_704_192), (k0_pay125 (wt2 x7))⟩,
   ⟨(Rect.unit (s := S2x4x768x256) ![1, 3, 640, 128] S1x1x64x64.size inb_S2x4x768x256_S1x1x64x64_1_3_640_128), (k0_pay124 (wt2 x7))⟩,
   ⟨(Rect.unit (s := S2x4x768x256) ![1, 3, 576, 64] S1x1x64x64.size inb_S2x4x768x256_S1x1x64x64_1_3_576_64), (k0_pay123 (wt2 x7))⟩,
   ⟨(Rect.unit (s := S2x4x768x256) ![1, 3, 512, 0] S1x1x64x64.size inb_S2x4x768x256_S1x1x64x64_1_3_512_0), (k0_pay122 (k0_pay121 (wt2 x7)))⟩,
   ⟨(Rect.unit (s := S2x4x768x256) ![1, 2, 704, 192] S1x1x64x64.size inb_S2x4x768x256_S1x1x64x64_1_2_704_192), (k0_pay120 (wt2 x7))⟩,
   ⟨(Rect.unit (s := S2x4x768x256) ![1, 2, 640, 128] S1x1x64x64.size inb_S2x4x768x256_S1x1x64x64_1_2_640_128), (k0_pay119 (wt2 x7))⟩,
   ⟨(Rect.unit (s := S2x4x768x256) ![1, 2, 576, 64] S1x1x64x64.size inb_S2x4x768x256_S1x1x64x64_1_2_576_64), (k0_pay118 (wt2 x7))⟩,
   ⟨(Rect.unit (s := S2x4x768x256) ![1, 2, 512, 0] S1x1x64x64.size inb_S2x4x768x256_S1x1x64x64_1_2_512_0), (k0_pay117 (wt2 x7))⟩,
   ⟨(Rect.unit (s := S2x4x768x256) ![1, 1, 704, 192] S1x1x64x64.size inb_S2x4x768x256_S1x1x64x64_1_1_704_192), (k0_pay116 (wt2 x7))⟩,
   ⟨(Rect.unit (s := S2x4x768x256) ![1, 1, 640, 128] S1x1x64x64.size inb_S2x4x768x256_S1x1x64x64_1_1_640_128), (k0_pay115 (k0_pay114 (wt2 x7)))⟩,
   ⟨(Rect.unit (s := S2x4x768x256) ![1, 1, 576, 64] S1x1x64x64.size inb_S2x4x768x256_S1x1x64x64_1_1_576_64), (k0_pay113 (wt2 x7))⟩,
   ⟨(Rect.unit (s := S2x4x768x256) ![1, 1, 512, 0] S1x1x64x64.size inb_S2x4x768x256_S1x1x64x64_1_1_512_0), (k0_pay112 (wt2 x7))⟩,
   ⟨(Rect.unit (s := S2x4x768x256) ![1, 0, 704, 192] S1x1x64x64.size inb_S2x4x768x256_S1x1x64x64_1_0_704_192), (k0_pay111 (wt2 x7))⟩,
   ⟨(Rect.unit (s := S2x4x768x256) ![1, 0, 640, 128] S1x1x64x64.size inb_S2x4x768x256_S1x1x64x64_1_0_640_128), (k0_pay110 (wt2 x7))⟩,
   ⟨(Rect.unit (s := S2x4x768x256) ![1, 0, 576, 64] S1x1x64x64.size inb_S2x4x768x256_S1x1x64x64_1_0_576_64), (k0_pay109 (wt2 x7))⟩,
   ⟨(Rect.unit (s := S2x4x768x256) ![1, 0, 512, 0] S1x1x64x64.size inb_S2x4x768x256_S1x1x64x64_1_0_512_0), (k0_pay108 (k0_pay107 (wt2 x7)))⟩,
   ⟨(Rect.unit (s := S2x4x768x256) ![1, 3, 448, 192] S1x1x64x64.size inb_S2x4x768x256_S1x1x64x64_1_3_448_192), (k0_pay106 (wt2 x7))⟩,
   ⟨(Rect.unit (s := S2x4x768x256) ![1, 3, 384, 128] S1x1x64x64.size inb_S2x4x768x256_S1x1x64x64_1_3_384_128), (k0_pay105 (wt2 x7))⟩,
   ⟨(Rect.unit (s := S2x4x768x256) ![1, 3, 320, 64] S1x1x64x64.size inb_S2x4x768x256_S1x1x64x64_1_3_320_64), (k0_pay104 (wt2 x7))⟩,
   ⟨(Rect.unit (s := S2x4x768x256) ![1, 3, 256, 0] S1x1x64x64.size inb_S2x4x768x256_S1x1x64x64_1_3_256_0), (k0_pay103 (wt2 x7))⟩,
   ⟨(Rect.unit (s := S2x4x768x256) ![1, 2, 448, 192] S1x1x64x64.size inb_S2x4x768x256_S1x1x64x64_1_2_448_192), (k0_pay102 (wt2 x7))⟩,
   ⟨(Rect.unit (s := S2x4x768x256) ![1, 2, 384, 128] S1x1x64x64.size inb_S2x4x768x256_S1x1x64x64_1_2_384_128), (k0_pay101 (k0_pay100 (wt2 x7)))⟩,
   ⟨(Rect.unit (s := S2x4x768x256) ![1, 2, 320, 64] S1x1x64x64.size inb_S2x4x768x256_S1x1x64x64_1_2_320_64), (k0_pay99 (wt2 x7))⟩,
   ⟨(Rect.unit (s := S2x4x768x256) ![1, 2, 256, 0] S1x1x64x64.size inb_S2x4x768x256_S1x1x64x64_1_2_256_0), (k0_pay98 (wt2 x7))⟩,
   ⟨(Rect.unit (s := S2x4x768x256) ![1, 1, 448, 192] S1x1x64x64.size inb_S2x4x768x256_S1x1x64x64_1_1_448_192), (k0_pay97 (wt2 x7))⟩,
   ⟨(Rect.unit (s := S2x4x768x256) ![1, 1, 384, 128] S1x1x64x64.size inb_S2x4x768x256_S1x1x64x64_1_1_384_128), (k0_pay96 (wt2 x7))⟩,
   ⟨(Rect.unit (s := S2x4x768x256) ![1, 1, 320, 64] S1x1x64x64.size inb_S2x4x768x256_S1x1x64x64_1_1_320_64), (k0_pay95 (wt2 x7))⟩,
   ⟨(Rect.unit (s := S2x4x768x256) ![1, 1, 256, 0] S1x1x64x64.size inb_S2x4x768x256_S1x1x64x64_1_1_256_0), (k0_pay94 (k0_pay93 (wt2 x7)))⟩,
   ⟨(Rect.unit (s := S2x4x768x256) ![1, 0, 448, 192] S1x1x64x64.size inb_S2x4x768x256_S1x1x64x64_1_0_448_192), (k0_pay92 (wt2 x7))⟩,
   ⟨(Rect.unit (s := S2x4x768x256) ![1, 0, 384, 128] S1x1x64x64.size inb_S2x4x768x256_S1x1x64x64_1_0_384_128), (k0_pay91 (wt2 x7))⟩,
   ⟨(Rect.unit (s := S2x4x768x256) ![1, 0, 320, 64] S1x1x64x64.size inb_S2x4x768x256_S1x1x64x64_1_0_320_64), (k0_pay90 (wt2 x7))⟩,
   ⟨(Rect.unit (s := S2x4x768x256) ![1, 0, 256, 0] S1x1x64x64.size inb_S2x4x768x256_S1x1x64x64_1_0_256_0), (k0_pay89 (wt2 x7))⟩,
   ⟨(Rect.unit (s := S2x4x768x256) ![1, 3, 192, 192] S1x1x64x64.size inb_S2x4x768x256_S1x1x64x64_1_3_192_192), (k0_pay88 (wt2 x7))⟩,
   ⟨(Rect.unit (s := S2x4x768x256) ![1, 3, 128, 128] S1x1x64x64.size inb_S2x4x768x256_S1x1x64x64_1_3_128_128), (k0_pay87 (k0_pay86 (wt2 x7)))⟩,
   ⟨(Rect.unit (s := S2x4x768x256) ![1, 3, 64, 64] S1x1x64x64.size inb_S2x4x768x256_S1x1x64x64_1_3_64_64), (k0_pay85 (wt2 x7))⟩,
   ⟨(Rect.unit (s := S2x4x768x256) ![1, 3, 0, 0] S1x1x64x64.size inb_S2x4x768x256_S1x1x64x64_1_3_0_0), (k0_pay84 (wt2 x7))⟩,
   ⟨(Rect.unit (s := S2x4x768x256) ![1, 2, 192, 192] S1x1x64x64.size inb_S2x4x768x256_S1x1x64x64_1_2_192_192), (k0_pay83 (wt2 x7))⟩,
   ⟨(Rect.unit (s := S2x4x768x256) ![1, 2, 128, 128] S1x1x64x64.size inb_S2x4x768x256_S1x1x64x64_1_2_128_128), (k0_pay82 (wt2 x7))⟩,
   ⟨(Rect.unit (s := S2x4x768x256) ![1, 2, 64, 64] S1x1x64x64.size inb_S2x4x768x256_S1x1x64x64_1_2_64_64), (k0_pay81 (wt2 x7))⟩,
   ⟨(Rect.unit (s := S2x4x768x256) ![1, 2, 0, 0] S1x1x64x64.size inb_S2x4x768x256_S1x1x64x64_1_2_0_0), (k0_pay80 (k0_pay79 (wt2 x7)))⟩,
   ⟨(Rect.unit (s := S2x4x768x256) ![1, 1, 192, 192] S1x1x64x64.size inb_S2x4x768x256_S1x1x64x64_1_1_192_192), (k0_pay78 (wt2 x7))⟩,
   ⟨(Rect.unit (s := S2x4x768x256) ![1, 1, 128, 128] S1x1x64x64.size inb_S2x4x768x256_S1x1x64x64_1_1_128_128), (k0_pay77 (wt2 x7))⟩,
   ⟨(Rect.unit (s := S2x4x768x256) ![1, 1, 64, 64] S1x1x64x64.size inb_S2x4x768x256_S1x1x64x64_1_1_64_64), (k0_pay76 (wt2 x7))⟩,
   ⟨(Rect.unit (s := S2x4x768x256) ![1, 1, 0, 0] S1x1x64x64.size inb_S2x4x768x256_S1x1x64x64_1_1_0_0), (k0_pay75 (wt2 x7))⟩,
   ⟨(Rect.unit (s := S2x4x768x256) ![1, 0, 192, 192] S1x1x64x64.size inb_S2x4x768x256_S1x1x64x64_1_0_192_192), (k0_pay74 (wt2 x7))⟩,
   ⟨(Rect.unit (s := S2x4x768x256) ![1, 0, 128, 128] S1x1x64x64.size inb_S2x4x768x256_S1x1x64x64_1_0_128_128), (k0_pay73 (k0_pay72 permTab x7))⟩,
   ⟨(Rect.unit (s := S2x4x768x256) ![1, 0, 64, 64] S1x1x64x64.size inb_S2x4x768x256_S1x1x64x64_1_0_64_64), (k0_pay71 permTab x7)⟩,
   ⟨(Rect.unit (s := S2x4x768x256) ![1, 0, 0, 0] S1x1x64x64.size inb_S2x4x768x256_S1x1x64x64_1_0_0_0), (k0_pay70 permTab x7)⟩,
   ⟨(Rect.unit (s := S2x4x768x256) ![0, 3, 704, 192] S1x1x64x64.size inb_S2x4x768x256_S1x1x64x64_0_3_704_192), (k0_pay68 (wt1 x6))⟩,
   ⟨(Rect.unit (s := S2x4x768x256) ![0, 3, 640, 128] S1x1x64x64.size inb_S2x4x768x256_S1x1x64x64_0_3_640_128), (k0_pay67 (wt1 x6))⟩,
   ⟨(Rect.unit (s := S2x4x768x256) ![0, 3, 576, 64] S1x1x64x64.size inb_S2x4x768x256_S1x1x64x64_0_3_576_64), (k0_pay66 ((k0_pay65 (wt1 x6))))⟩,
   ⟨(Rect.unit (s := S2x4x768x256) ![0, 3, 512, 0] S1x1x64x64.size inb_S2x4x768x256_S1x1x64x64_0_3_512_0), (k0_pay64 (wt1 x6))⟩,
   ⟨(Rect.unit (s := S2x4x768x256) ![0, 2, 704, 192] S1x1x64x64.size inb_S2x4x768x256_S1x1x64x64_0_2_704_192), (k0_pay63 (wt1 x6))⟩,
   ⟨(Rect.unit (s := S2x4x768x256) ![0, 2, 640, 128] S1x1x64x64.size inb_S2x4x768x256_S1x1x64x64_0_2_640_128), (k0_pay62 (wt1 x6))⟩,
   ⟨(Rect.unit (s := S2x4x768x256) ![0, 2, 576, 64] S1x1x64x64.size inb_S2x4x768x256_S1x1x64x64_0_2_576_64), (k0_pay61 (wt1 x6))⟩,
   ⟨(Rect.unit (s := S2x4x768x256) ![0, 2, 512, 0] S1x1x64x64.size inb_S2x4x768x256_S1x1x64x64_0_2_512_0), (k0_pay60 (wt1 x6))⟩,
   ⟨(Rect.unit (s := S2x4x768x256) ![0, 1, 704, 192] S1x1x64x64.size inb_S2x4x768x256_S1x1x64x64_0_1_704_192), (k0_pay59 ((k0_pay58 (wt1 x6))))⟩,
   ⟨(Rect.unit (s := S2x4x768x256) ![0, 1, 640, 128] S1x1x64x64.size inb_S2x4x768x256_S1x1x64x64_0_1_640_128), (k0_pay57 (wt1 x6))⟩,
   ⟨(Rect.unit (s := S2x4x768x256) ![0, 1, 576, 64] S1x1x64x64.size inb_S2x4x768x256_S1x1x64x64_0_1_576_64), (k0_pay56 (wt1 x6))⟩,
   ⟨(Rect.unit (s := S2x4x768x256) ![0, 1, 512, 0] S1x1x64x64.size inb_S2x4x768x256_S1x1x64x64_0_1_512_0), (k0_pay55 (wt1 x6))⟩,
   ⟨(Rect.unit (s := S2x4x768x256) ![0, 0, 704, 192] S1x1x64x64.size inb_S2x4x768x256_S1x1x64x64_0_0_704_192), (k0_pay54 (wt1 x6))⟩,
   ⟨(Rect.unit (s := S2x4x768x256) ![0, 0, 640, 128] S1x1x64x64.size inb_S2x4x768x256_S1x1x64x64_0_0_640_128), (k0_pay53 (wt1 x6))⟩,
   ⟨(Rect.unit (s := S2x4x768x256) ![0, 0, 576, 64] S1x1x64x64.size inb_S2x4x768x256_S1x1x64x64_0_0_576_64), (k0_pay52 ((k0_pay51 (wt1 x6))))⟩,
   ⟨(Rect.unit (s := S2x4x768x256) ![0, 0, 512, 0] S1x1x64x64.size inb_S2x4x768x256_S1x1x64x64_0_0_512_0), (k0_pay50 (wt1 x6))⟩,
   ⟨(Rect.unit (s := S2x4x768x256) ![0, 3, 448, 192] S1x1x64x64.size inb_S2x4x768x256_S1x1x64x64_0_3_448_192), (k0_pay49 (wt1 x6))⟩,
   ⟨(Rect.unit (s := S2x4x768x256) ![0, 3, 384, 128] S1x1x64x64.size inb_S2x4x768x256_S1x1x64x64_0_3_384_128), (k0_pay48 (wt1 x6))⟩,
   ⟨(Rect.unit (s := S2x4x768x256) ![0, 3, 320, 64] S1x1x64x64.size inb_S2x4x768x256_S1x1x64x64_0_3_320_64), (k0_pay47 (wt1 x6))⟩,
   ⟨(Rect.unit (s := S2x4x768x256) ![0, 3, 256, 0] S1x1x64x64.size inb_S2x4x768x256_S1x1x64x64_0_3_256_0), (k0_pay46 (wt1 x6))⟩,
   ⟨(Rect.unit (s := S2x4x768x256) ![0, 2, 448, 192] S1x1x64x64.size inb_S2x4x768x256_S1x1x64x64_0_2_448_192), (k0_pay45 ((k0_pay44 (wt1 x6))))⟩,
   ⟨(Rect.unit (s := S2x4x768x256) ![0, 2, 384, 128] S1x1x64x64.size inb_S2x4x768x256_S1x1x64x64_0_2_384_128), (k0_pay43 (wt1 x6))⟩,
   ⟨(Rect.unit (s := S2x4x768x256) ![0, 2, 320, 64] S1x1x64x64.size inb_S2x4x768x256_S1x1x64x64_0_2_320_64), (k0_pay42 (wt1 x6))⟩,
   ⟨(Rect.unit (s := S2x4x768x256) ![0, 2, 256, 0] S1x1x64x64.size inb_S2x4x768x256_S1x1x64x64_0_2_256_0), (k0_pay41 (wt1 x6))⟩,
   ⟨(Rect.unit (s := S2x4x768x256) ![0, 1, 448, 192] S1x1x64x64.size inb_S2x4x768x256_S1x1x64x64_0_1_448_192), (k0_pay40 (wt1 x6))⟩,
   ⟨(Rect.unit (s := S2x4x768x256) ![0, 1, 384, 128] S1x1x64x64.size inb_S2x4x768x256_S1x1x64x64_0_1_384_128), (k0_pay39 (wt1 x6))⟩,
   ⟨(Rect.unit (s := S2x4x768x256) ![0, 1, 320, 64] S1x1x64x64.size inb_S2x4x768x256_S1x1x64x64_0_1_320_64), (k0_pay38 ((k0_pay37 (wt1 x6))))⟩,
   ⟨(Rect.unit (s := S2x4x768x256) ![0, 1, 256, 0] S1x1x64x64.size inb_S2x4x768x256_S1x1x64x64_0_1_256_0), (k0_pay36 (wt1 x6))⟩,
   ⟨(Rect.unit (s := S2x4x768x256) ![0, 0, 448, 192] S1x1x64x64.size inb_S2x4x768x256_S1x1x64x64_0_0_448_192), (k0_pay35 (wt1 x6))⟩,
   ⟨(Rect.unit (s := S2x4x768x256) ![0, 0, 384, 128] S1x1x64x64.size inb_S2x4x768x256_S1x1x64x64_0_0_384_128), (k0_pay34 (wt1 x6))⟩,
   ⟨(Rect.unit (s := S2x4x768x256) ![0, 0, 320, 64] S1x1x64x64.size inb_S2x4x768x256_S1x1x64x64_0_0_320_64), (k0_pay33 (wt1 x6))⟩,
   ⟨(Rect.unit (s := S2x4x768x256) ![0, 0, 256, 0] S1x1x64x64.size inb_S2x4x768x256_S1x1x64x64_0_0_256_0), (k0_pay32 (wt1 x6))⟩,
   ⟨(Rect.unit (s := S2x4x768x256) ![0, 3, 192, 192] S1x1x64x64.size inb_S2x4x768x256_S1x1x64x64_0_3_192_192), (k0_pay31 ((k0_pay30 (wt1 x6))))⟩,
   ⟨(Rect.unit (s := S2x4x768x256) ![0, 3, 128, 128] S1x1x64x64.size inb_S2x4x768x256_S1x1x64x64_0_3_128_128), (k0_pay29 (wt1 x6))⟩,
   ⟨(Rect.unit (s := S2x4x768x256) ![0, 3, 64, 64] S1x1x64x64.size inb_S2x4x768x256_S1x1x64x64_0_3_64_64), (k0_pay28 (wt1 x6))⟩,
   ⟨(Rect.unit (s := S2x4x768x256) ![0, 3, 0, 0] S1x1x64x64.size inb_S2x4x768x256_S1x1x64x64_0_3_0_0), (k0_pay27 (wt1 x6))⟩,
   ⟨(Rect.unit (s := S2x4x768x256) ![0, 2, 192, 192] S1x1x64x64.size inb_S2x4x768x256_S1x1x64x64_0_2_192_192), (k0_pay26 (wt1 x6))⟩,
   ⟨(Rect.unit (s := S2x4x768x256) ![0, 2, 128, 128] S1x1x64x64.size inb_S2x4x768x256_S1x1x64x64_0_2_128_128), (k0_pay25 (wt1 x6))⟩,
   ⟨(Rect.unit (s := S2x4x768x256) ![0, 2, 64, 64] S1x1x64x64.size inb_S2x4x768x256_S1x1x64x64_0_2_64_64), (k0_pay24 ((k0_pay23 (wt1 x6))))⟩,
   ⟨(Rect.unit (s := S2x4x768x256) ![0, 2, 0, 0] S1x1x64x64.size inb_S2x4x768x256_S1x1x64x64_0_2_0_0), (k0_pay22 (wt1 x6))⟩,
   ⟨(Rect.unit (s := S2x4x768x256) ![0, 1, 192, 192] S1x1x64x64.size inb_S2x4x768x256_S1x1x64x64_0_1_192_192), (k0_pay21 (wt1 x6))⟩,
   ⟨(Rect.unit (s := S2x4x768x256) ![0, 1, 128, 128] S1x1x64x64.size inb_S2x4x768x256_S1x1x64x64_0_1_128_128), (k0_pay20 (wt1 x6))⟩,
   ⟨(Rect.unit (s := S2x4x768x256) ![0, 1, 64, 64] S1x1x64x64.size inb_S2x4x768x256_S1x1x64x64_0_1_64_64), (k0_pay19 (wt1 x6))⟩,
   ⟨(Rect.unit (s := S2x4x768x256) ![0, 1, 0, 0] S1x1x64x64.size inb_S2x4x768x256_S1x1x64x64_0_1_0_0), (k0_pay18 (wt1 x6))⟩,
   ⟨(Rect.unit (s := S2x4x768x256) ![0, 0, 192, 192] S1x1x64x64.size inb_S2x4x768x256_S1x1x64x64_0_0_192_192), (k0_pay17 (k0_pay16 (iota .tc S192x192 32 [0] iota_S192x192_d0_w32) k0_pay7 (Scalar.select (Scalar.cmpi .eq 64#32 0#32) 1#32 64#32) k0_pay8 k0_pay9 x6))⟩,
   ⟨(Rect.unit (s := S2x4x768x256) ![0, 0, 128, 128] S1x1x64x64.size inb_S2x4x768x256_S1x1x64x64_0_0_128_128), (k0_pay15 (iota .tc S192x192 32 [0] iota_S192x192_d0_w32) k0_pay7 (Scalar.select (Scalar.cmpi .eq 64#32 0#32) 1#32 64#32) k0_pay8 k0_pay9 x6)⟩,
   ⟨(Rect.unit (s := S2x4x768x256) ![0, 0, 64, 64] S1x1x64x64.size inb_S2x4x768x256_S1x1x64x64_0_0_64_64), (k0_pay14 (iota .tc S192x192 32 [0] iota_S192x192_d0_w32) k0_pay7 (Scalar.select (Scalar.cmpi .eq 64#32 0#32) 1#32 64#32) k0_pay8 k0_pay9 x6)⟩,
   ⟨(Rect.unit (s := S2x4x768x256) ![0, 0, 0, 0] S1x1x64x64.size inb_S2x4x768x256_S1x1x64x64_0_0_0_0), (k0_pay13 (iota .tc S192x192 32 [0] iota_S192x192_d0_w32) k0_pay7 (Scalar.select (Scalar.cmpi .eq 64#32 0#32) 1#32 64#32) k0_pay8 k0_pay9 x6)⟩,
   ⟨(Rect.unit (s := S2x4x768x256) ![0, 0, 0, 0] S2x4x768x256.size inb_S2x4x768x256_S2x4x768x256_0_0_0_0), (k0_pay11 (F := F))⟩]
/-- The block-diagonal convolution table. -/
def cwOut (x6 x7 : Vec F S1024x192 .f32) : Vec F S2x4x768x256 .bf16 := View.canon (cwPieces x6 x7)

set_option maxHeartbeats 8000000 in
/-- The first point: the window block is stored rounded, the accumulator is started. -/
theorem run0_A (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S100x1024 .f32) (harg6 : arg6.IsWhole) (arg7 : Memref sig .tc .vmem S1024x192 .f32) (harg7 : arg7.IsWhole) (arg8 : Memref sig .tc .vmem S1024x192 .f32) (harg8 : arg8.IsWhole) (arg9 : Memref sig .tc .vmem S1024x1024 .bf16) (harg9 : arg9.IsWhole) (arg10 : Memref sig .tc .vmem S1024x768 .bf16) (harg10 : arg10.IsWhole) (arg11 : Memref sig .tc .vmem S100x1024 .bf16) (harg11 : arg11.IsWhole) (arg12 : Memref sig .tc .vmem S2x4x768x256 .bf16) (harg12 : arg12.IsWhole) (arg13 : Memref sig .tc .vmem S1024x1024 .f32) (harg13 : arg13.IsWhole)
    (hc0 : cond0_0 i) (hc1 : ¬cond0_1 i) (hc2 : ¬cond0_2 i) (x0 : Vec F S1024x768 .f32) (x1 : Vec F S1024x768 .f32) (x2 : Vec F S1x1024 .f32) (x3 : Vec F S1024x1024 .f32) (x4 : Vec F S1024x1024 .f32) (x5 : Vec F S100x1024 .f32) (x6 : Vec F S1024x192 .f32) (x7 : Vec F S1024x192 .f32) (xi9 : Vec F S1024x1024 .bf16) (xi11 : Vec F S100x1024 .bf16) (xi12 : Vec F S2x4x768x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi9 ∗ (∃ d, owns (c : Thread nD τ) arg10 fullShare d) ∗ owns (c : Thread nD τ) arg11 fullShare xi11 ∗ owns (c : Thread nD τ) arg12 fullShare xi12 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi9 ∗ owns (c : Thread nD τ) arg10 fullShare (k0_pay1 x0) ∗ owns (c : Thread nD τ) arg11 fullShare xi11 ∗ owns (c : Thread nD τ) arg12 fullShare xi12 ∗ owns (c : Thread nD τ) arg13 fullShare (k0_pay3 x0 x1)) -∗ K ⟨⟩))
      ⊢ wp frame (wpE (defs₀ (F := F)) Variants.none c none) E (cc0_csm_prep_q i arg1 harg1 arg2 harg2 arg3 harg3 arg4 harg4 arg5 harg5 arg6 harg6 arg7 harg7 arg8 harg8 arg9 harg9 arg10 harg10 arg11 harg11 arg12 harg12 arg13 harg13) K := by
  simp only [cc0_csm_prep_q_eq_skeleton]; unfold cc0_csm_prep_q_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%dS0, %fS0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; refine (Cert.Shared.read_store _ _ _ _ _).trans ?_; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]
  isplitl [H10]
  · iexists _; isplitr; · ipureintro; exact harg11.read_unread _
    iexact H10
  isplitl [H11]
  · iexists _; isplitr; · ipureintro; exact harg12.read_unread _
    iexact H11
  iexists _; isplitr; swap; · iexact HS0
  ipureintro; refine (Cert.Shared.read_store _ _ _ _ _).trans ?_; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]

set_option maxHeartbeats 8000000 in
/-- A middle point: the window block is stored rounded, the accumulator is added to. -/
theorem run0_B (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S100x1024 .f32) (harg6 : arg6.IsWhole) (arg7 : Memref sig .tc .vmem S1024x192 .f32) (harg7 : arg7.IsWhole) (arg8 : Memref sig .tc .vmem S1024x192 .f32) (harg8 : arg8.IsWhole) (arg9 : Memref sig .tc .vmem S1024x1024 .bf16) (harg9 : arg9.IsWhole) (arg10 : Memref sig .tc .vmem S1024x768 .bf16) (harg10 : arg10.IsWhole) (arg11 : Memref sig .tc .vmem S100x1024 .bf16) (harg11 : arg11.IsWhole) (arg12 : Memref sig .tc .vmem S2x4x768x256 .bf16) (harg12 : arg12.IsWhole) (arg13 : Memref sig .tc .vmem S1024x1024 .f32) (harg13 : arg13.IsWhole)
    (hc0 : ¬cond0_0 i) (hc1 : cond0_1 i) (hc2 : ¬cond0_2 i) (x0 : Vec F S1024x768 .f32) (x1 : Vec F S1024x768 .f32) (x2 : Vec F S1x1024 .f32) (x3 : Vec F S1024x1024 .f32) (x4 : Vec F S1024x1024 .f32) (x5 : Vec F S100x1024 .f32) (x6 : Vec F S1024x192 .f32) (x7 : Vec F S1024x192 .f32) (xs0 : Vec F S1024x1024 .f32) (xi9 : Vec F S1024x1024 .bf16) (xi11 : Vec F S100x1024 .bf16) (xi12 : Vec F S2x4x768x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi9 ∗ (∃ d, owns (c : Thread nD τ) arg10 fullShare d) ∗ owns (c : Thread nD τ) arg11 fullShare xi11 ∗ owns (c : Thread nD τ) arg12 fullShare xi12 ∗ owns (c : Thread nD τ) arg13 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi9 ∗ owns (c : Thread nD τ) arg10 fullShare (k0_pay1 x0) ∗ owns (c : Thread nD τ) arg11 fullShare xi11 ∗ owns (c : Thread nD τ) arg12 fullShare xi12 ∗ owns (c : Thread nD τ) arg13 fullShare (k0_pay4 x0 x1 xs0)) -∗ K ⟨⟩))
      ⊢ wp frame (wpE (defs₀ (F := F)) Variants.none c none) E (cc0_csm_prep_q i arg1 harg1 arg2 harg2 arg3 harg3 arg4 harg4 arg5 harg5 arg6 harg6 arg7 harg7 arg8 harg8 arg9 harg9 arg10 harg10 arg11 harg11 arg12 harg12 arg13 harg13) K := by
  simp only [cc0_csm_prep_q_eq_skeleton]; unfold cc0_csm_prep_q_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fS0, %hfS0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfS0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; refine (Cert.Shared.read_store _ _ _ _ _).trans ?_; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]
  isplitl [H10]
  · iexists _; isplitr; · ipureintro; exact harg11.read_unread _
    iexact H10
  isplitl [H11]
  · iexists _; isplitr; · ipureintro; exact harg12.read_unread _
    iexact H11
  iexists _; isplitr; swap; · iexact HS0
  ipureintro; refine (Cert.Shared.read_store _ _ _ _ _).trans ?_; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]

end Cert.KernelIdeal.Prep

end
-- ==== Proof.KernelIdeal.PrepC.lean ====
/- The preparing call: what one run of its body does at the last point of its grid. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared
public import proofs.«01_k».proof.Proof.KernelIdeal.PrepRuns

@[expose] public section

set_option maxRecDepth 16384

noncomputable section

namespace Cert.KernelIdeal.Prep

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
set_option maxHeartbeats 8000000 in
/-- The last point: the accumulator is finished and every output is stored. -/
theorem run0_C (c : Dev nD) (i : grid0.Coords) (arg1 : Memref sig .tc .vmem S1024x768 .f32) (harg1 : arg1.IsWhole) (arg2 : Memref sig .tc .vmem S1024x768 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S100x1024 .f32) (harg6 : arg6.IsWhole) (arg7 : Memref sig .tc .vmem S1024x192 .f32) (harg7 : arg7.IsWhole) (arg8 : Memref sig .tc .vmem S1024x192 .f32) (harg8 : arg8.IsWhole) (arg9 : Memref sig .tc .vmem S1024x1024 .bf16) (harg9 : arg9.IsWhole) (arg10 : Memref sig .tc .vmem S1024x768 .bf16) (harg10 : arg10.IsWhole) (arg11 : Memref sig .tc .vmem S100x1024 .bf16) (harg11 : arg11.IsWhole) (arg12 : Memref sig .tc .vmem S2x4x768x256 .bf16) (harg12 : arg12.IsWhole) (arg13 : Memref sig .tc .vmem S1024x1024 .f32) (harg13 : arg13.IsWhole)
    (hc0 : ¬cond0_0 i) (hc1 : cond0_1 i) (hc2 : cond0_2 i) (x0 : Vec F S1024x768 .f32) (x1 : Vec F S1024x768 .f32) (x2 : Vec F S1x1024 .f32) (x3 : Vec F S1024x1024 .f32) (x4 : Vec F S1024x1024 .f32) (x5 : Vec F S100x1024 .f32) (x6 : Vec F S1024x192 .f32) (x7 : Vec F S1024x192 .f32) (xs0 : Vec F S1024x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 (k0_pay126 x3) (k0_pay127 (k0_pay4 x0 x1 xs0) x2 x3 x4)) ∗ owns (c : Thread nD τ) arg10 fullShare (k0_pay1 x0) ∗ owns (c : Thread nD τ) arg11 fullShare (k0_pay6 x5) ∗ owns (c : Thread nD τ) arg12 fullShare (cwOut x6 x7) ∗ owns (c : Thread nD τ) arg13 fullShare (k0_pay4 x0 x1 xs0)) -∗ K ⟨⟩))
      ⊢ wp frame (wpE (defs₀ (F := F)) Variants.none c none) E (cc0_csm_prep_q i arg1 harg1 arg2 harg2 arg3 harg3 arg4 harg4 arg5 harg5 arg6 harg6 arg7 harg7 arg8 harg8 arg9 harg9 arg10 harg10 arg11 harg11 arg12 harg12 arg13 harg13) K := by
  simp only [cc0_csm_prep_q_eq_skeleton]; unfold cc0_csm_prep_q_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]; unfold k0_part1_skel; unfold k0_part2_skel; unfold k0_part3_skel; unfold k0_part4_skel; unfold k0_part5_skel; unfold k0_part6_skel; unfold k0_part7_skel; unfold k0_part8_skel; unfold k0_part9_skel; unfold k0_part10_skel; unfold k0_part11_skel; unfold k0_part12_skel; unfold k0_part13_skel; unfold k0_part14_skel; unfold k0_part15_skel; unfold k0_part16_skel; unfold k0_part17_skel; unfold k0_part18_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fS0, %hfS0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfS0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; refine (Cert.Shared.read_store _ _ _ _ _).trans ?_; sl_unfold_run_names; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]; exact congrArg (fun z => k0_pay5 (k0_pay126 x3) (k0_pay127 z x2 x3 x4)) (cov_S1024x1024_f32 _ _ _ _ [])
  isplitl [H9]
  · iexists _; isplitr; swap; · iexact H9
    ipureintro; refine (Cert.Shared.read_store _ _ _ _ _).trans ?_; sl_unfold_run_names; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]
  isplitl [H10]
  · iexists _; isplitr; swap; · iexact H10
    ipureintro; refine (Cert.Shared.read_store _ _ _ _ _).trans ?_; sl_unfold_run_names; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]
  isplitl [H11]
  · iexists _; isplitr; swap; · iexact H11
    ipureintro; refine (View.read_writes_eq_canon _ _ _ (View.cover_of_tiledBy _ ![1,1,64,64] (by sl_kernel_rfl))).trans ?_; sl_unfold_run_names; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]; rfl
  iexists _; isplitr; swap; · iexact HS0
  ipureintro; refine (Cert.Shared.read_store _ _ _ _ _).trans ?_; sl_unfold_run_names; simp only [ld_S1024x768_f32, ld_S1x1024_f32, ld_S1024x1024_f32, cov_S1024x1024_f32, ld_S100x1024_f32, ld_S1024x192_f32, ld_S1024x1024_bf16, ld_S1024x768_bf16, ld_S100x1024_bf16, ld_S2x4x768x256_bf16]

end Cert.KernelIdeal.Prep

end
-- ==== Proof.KernelIdeal.PrepBody.lean ====
/- The preparing call over its grid: what every buffer holds at every point, and the pipeline's obligation about the body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared
public import proofs.«01_k».proof.Proof.KernelIdeal.PrepC

@[expose] public section

set_option maxRecDepth 16384

noncomputable section

namespace Cert.KernelIdeal.Prep

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` reads of its array at point `t`, the arrays being at `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, given data that keeps it there. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, given data that keeps it there. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, given data that keeps it there. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, given data that keeps it there. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, given data that keeps it there. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, given data that keeps it there. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, given data that keeps it there. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, given data that keeps it there. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Window 0's current staging buffer at point `t`. -/
abbrev ms_0 (t : Fin cfg0.N) : Memref sig .tc .vmem S1024x768 .f32 := win0_0.stage (cfg0.slots t 0)
theorem hs_0 (t : Fin cfg0.N) : (ms_0 t).IsWhole := hstage0_0 ((cfg0.slots t 0).cast nbuf0_0)
/-- Window 1's current staging buffer at point `t`. -/
abbrev ms_1 (t : Fin cfg0.N) : Memref sig .tc .vmem S1024x768 .f32 := win0_1.stage (cfg0.slots t 1)
theorem hs_1 (t : Fin cfg0.N) : (ms_1 t).IsWhole := hstage0_1 ((cfg0.slots t 1).cast nbuf0_1)
/-- Window 2's current staging buffer at point `t`. -/
abbrev ms_2 (t : Fin cfg0.N) : Memref sig .tc .vmem S1x1024 .f32 := win0_2.stage (cfg0.slots t 2)
theorem hs_2 (t : Fin cfg0.N) : (ms_2 t).IsWhole := hstage0_2 ((cfg0.slots t 2).cast nbuf0_2)
/-- Window 3's current staging buffer at point `t`. -/
abbrev ms_3 (t : Fin cfg0.N) : Memref sig .tc .vmem S1024x1024 .f32 := win0_3.stage (cfg0.slots t 3)
theorem hs_3 (t : Fin cfg0.N) : (ms_3 t).IsWhole := hstage0_3 ((cfg0.slots t 3).cast nbuf0_3)
/-- Window 4's current staging buffer at point `t`. -/
abbrev ms_4 (t : Fin cfg0.N) : Memref sig .tc .vmem S1024x1024 .f32 := win0_4.stage (cfg0.slots t 4)
theorem hs_4 (t : Fin cfg0.N) : (ms_4 t).IsWhole := hstage0_4 ((cfg0.slots t 4).cast nbuf0_4)
/-- Window 5's current staging buffer at point `t`. -/
abbrev ms_5 (t : Fin cfg0.N) : Memref sig .tc .vmem S100x1024 .f32 := win0_5.stage (cfg0.slots t 5)
theorem hs_5 (t : Fin cfg0.N) : (ms_5 t).IsWhole := hstage0_5 ((cfg0.slots t 5).cast nbuf0_5)
/-- Window 6's current staging buffer at point `t`. -/
abbrev ms_6 (t : Fin cfg0.N) : Memref sig .tc .vmem S1024x192 .f32 := win0_6.stage (cfg0.slots t 6)
theorem hs_6 (t : Fin cfg0.N) : (ms_6 t).IsWhole := hstage0_6 ((cfg0.slots t 6).cast nbuf0_6)
/-- Window 7's current staging buffer at point `t`. -/
abbrev ms_7 (t : Fin cfg0.N) : Memref sig .tc .vmem S1024x192 .f32 := win0_7.stage (cfg0.slots t 7)
theorem hs_7 (t : Fin cfg0.N) : (ms_7 t).IsWhole := hstage0_7 ((cfg0.slots t 7).cast nbuf0_7)
/-- Window 8's current staging buffer at point `t`. -/
abbrev ms_8 (t : Fin cfg0.N) : Memref sig .tc .vmem S1024x1024 .bf16 := win0_8.stage (cfg0.slots t 8)
theorem hs_8 (t : Fin cfg0.N) : (ms_8 t).IsWhole := hstage0_8 ((cfg0.slots t 8).cast nbuf0_8)
/-- Window 9's current staging buffer at point `t`. -/
abbrev ms_9 (t : Fin cfg0.N) : Memref sig .tc .vmem S1024x768 .bf16 := win0_9.stage (cfg0.slots t 9)
theorem hs_9 (t : Fin cfg0.N) : (ms_9 t).IsWhole := hstage0_9 ((cfg0.slots t 9).cast nbuf0_9)
/-- Window 10's current staging buffer at point `t`. -/
abbrev ms_10 (t : Fin cfg0.N) : Memref sig .tc .vmem S100x1024 .bf16 := win0_10.stage (cfg0.slots t 10)
theorem hs_10 (t : Fin cfg0.N) : (ms_10 t).IsWhole := hstage0_10 ((cfg0.slots t 10).cast nbuf0_10)
/-- Window 11's current staging buffer at point `t`. -/
abbrev ms_11 (t : Fin cfg0.N) : Memref sig .tc .vmem S2x4x768x256 .bf16 := win0_11.stage (cfg0.slots t 11)
theorem hs_11 (t : Fin cfg0.N) : (ms_11 t).IsWhole := hstage0_11 ((cfg0.slots t 11).cast nbuf0_11)

/-- The accumulator after point `n`. -/
def accAt (c : Dev nD) : (n : ℕ) → n < cfg0.N → Vec F S1024x1024 .f32
  | 0, h => k0_pay3 (iblk V c 0 ⟨0, h⟩) (iblk V c 1 ⟨0, h⟩)
  | n + 1, h => k0_pay4 (iblk V c 0 ⟨n + 1, h⟩) (iblk V c 1 ⟨n + 1, h⟩) (accAt c n (by omega))
theorem accAt_zero (c : Dev nD) (t : Fin cfg0.N) (hz : t.val = 0) :
    accAt V c t.val t.isLt = k0_pay3 (iblk V c 0 t) (iblk V c 1 t) := by
  obtain ⟨n, hn⟩ := t; cases n with
  | zero => rfl
  | succ n => exact absurd hz (by simp)
theorem accAt_pos (c : Dev nD) (t : Fin cfg0.N) (hz : t.val ≠ 0) :
    accAt V c t.val t.isLt = k0_pay4 (iblk V c 0 t) (iblk V c 1 t) (accAt V c (t.val - 1) (by omega)) := by
  obtain ⟨n, hn⟩ := t; cases n with
  | zero => exact absurd rfl hz
  | succ n => rfl

/-- The accumulator buffer. -/
abbrev scM : Memref sig .tc .vmem S1024x1024 .f32 := Memref.whole cc0_scratch0
/-- The other buffers the region keeps, each at something. -/
def Rest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
theorem PhiA_eq (c : Dev nD) : (Pipeline.ΦA spec0 c : sProp 𝕄)
    = iprop(((∃ d, owns (c : Thread nD τ) scM fullShare d) ∗ Rest c) ∗ (∃ r, prngReg c r)) := by
  unfold Pipeline.ΦA; rw [scopedRest0_eq]; simp only [scM, owns_whole]; rfl
/-- The invariant before position `n`: the accumulator as the point before left it. -/
def PhiS (c : Dev nD) : (n : ℕ) → n ≤ cfg0.N → sProp 𝕄
  | 0, _ => Pipeline.ΦA spec0 c
  | n + 1, hn => iprop((owns (c : Thread nD τ) scM fullShare (accAt V c n hn) ∗ Rest c) ∗ (∃ r, prngReg c r))
theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAt V c n hn) ∗ Rest c) ∗ (∃ r, prngReg c r)) := rfl
theorem PhiS_pos (c : Dev nD) (n : ℕ) (h : n ≤ cfg0.N) (hz : n ≠ 0) :
    PhiS V c n h = iprop((owns (c : Thread nD τ) scM fullShare (accAt V c (n - 1) (by omega)) ∗ Rest c) ∗ (∃ r, prngReg c r)) := by
  cases n with
  | zero => exact absurd rfl hz
  | succ n => rfl

/-- The folded projection, as stored at the last point. -/
def qAt (c : Dev nD) (t : Fin cfg0.N) : Vec F S1024x1024 .bf16 :=
  k0_pay5 (k0_pay126 (iblk V c 3 t)) (k0_pay127 (accAt V c t.val t.isLt) (iblk V c 2 t) (iblk V c 3 t) (iblk V c 4 t))

/-- The region's data: the arrays as entered at `V`, what every buffer holds after every point. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => qAt V c t
    | ⟨9, _⟩ => k0_pay1 (iblk V c 0 t)
    | ⟨10, _⟩ => k0_pay6 (iblk V c 5 t)
    | ⟨11, _⟩ => cwOut (iblk V c 6 t) (iblk V c 7 t)
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; exact Pipeline.Dat.Φ_castSucc (PhiS V c) t
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = qAt V c t := by dsimp only [dat]
theorem after_9 (c : Dev nD) (t : Fin cfg0.N) : (dat V c).after 9 t = k0_pay1 (iblk V c 0 t) := by dsimp only [dat]
theorem after_10 (c : Dev nD) (t : Fin cfg0.N) : (dat V c).after 10 t = k0_pay6 (iblk V c 5 t) := by dsimp only [dat]
theorem after_11 (c : Dev nD) (t : Fin cfg0.N) : (dat V c).after 11 t = cwOut (iblk V c 6 t) (iblk V c 7 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
theorem liveAt_6 : ∀ t : Fin cfg0.N, cfg0.idle 6 (grid0.coords t) = false := fun _ => rfl
theorem liveAt_7 : ∀ t : Fin cfg0.N, cfg0.idle 7 (grid0.coords t) = false := fun _ => rfl
theorem liveAt_9 : ∀ t : Fin cfg0.N, cfg0.idle 9 (grid0.coords t) = false := fun _ => rfl
theorem liveC_8 : ∀ t : Fin cfg0.N, t.val = 3 → cfg0.idle 8 (grid0.coords t) = false := by decide +kernel
theorem idleAt_8 : ∀ t : Fin cfg0.N, t.val ≠ 3 → cfg0.idle 8 (grid0.coords t) = true := by decide +kernel
theorem noFlush_8 : ∀ t : Fin cfg0.N, t.val ≠ 3 → (cfg0.win 8).flush t = false := by decide +kernel
theorem liveC_10 : ∀ t : Fin cfg0.N, t.val = 3 → cfg0.idle 10 (grid0.coords t) = false := by decide +kernel
theorem idleAt_10 : ∀ t : Fin cfg0.N, t.val ≠ 3 → cfg0.idle 10 (grid0.coords t) = true := by decide +kernel
theorem noFlush_10 : ∀ t : Fin cfg0.N, t.val ≠ 3 → (cfg0.win 10).flush t = false := by decide +kernel
theorem liveC_11 : ∀ t : Fin cfg0.N, t.val = 3 → cfg0.idle 11 (grid0.coords t) = false := by decide +kernel
theorem idleAt_11 : ∀ t : Fin cfg0.N, t.val ≠ 3 → cfg0.idle 11 (grid0.coords t) = true := by decide +kernel
theorem noFlush_11 : ∀ t : Fin cfg0.N, t.val ≠ 3 → (cfg0.win 11).flush t = false := by decide +kernel

/-- What the body is handed at point `t`, window by window. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d)))
/-- What the body hands back at point `t`. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 14400000 in
/-- The body at any point takes what it is handed to what it must hand back. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).owesAt () t.succ = (dat V c).owesAt () t.castSucc from rfl]
  rw [show (dat V c).Φ t.succ = PhiS V c (t.val + 1) t.isLt from rfl, PhiS_succ]
  by_cases h0 : t.val = 0
  · have h3 : t.val ≠ 3 := by omega
    rw [show (dat V c).leavesExact 0 t = owns (c : Thread nD τ) (ms_0 t) fullShare ((dat V c).after 0 t) from by
      unfold Dat.leavesExact; rw [liveAt_0 t], after_0]
    rw [show (dat V c).leavesExact 1 t = owns (c : Thread nD τ) (ms_1 t) fullShare ((dat V c).after 1 t) from by
      unfold Dat.leavesExact; rw [liveAt_1 t], after_1]
    rw [show (dat V c).leavesExact 2 t = owns (c : Thread nD τ) (ms_2 t) fullShare ((dat V c).after 2 t) from by
      unfold Dat.leavesExact; rw [liveAt_2 t], after_2]
    rw [show (dat V c).leavesExact 3 t = owns (c : Thread nD τ) (ms_3 t) fullShare ((dat V c).after 3 t) from by
      unfold Dat.leavesExact; rw [liveAt_3 t], after_3]
    rw [show (dat V c).leavesExact 4 t = owns (c : Thread nD τ) (ms_4 t) fullShare ((dat V c).after 4 t) from by
      unfold Dat.leavesExact; rw [liveAt_4 t], after_4]
    rw [show (dat V c).leavesExact 5 t = owns (c : Thread nD τ) (ms_5 t) fullShare ((dat V c).after 5 t) from by
      unfold Dat.leavesExact; rw [liveAt_5 t], after_5]
    rw [show (dat V c).leavesExact 6 t = owns (c : Thread nD τ) (ms_6 t) fullShare ((dat V c).after 6 t) from by
      unfold Dat.leavesExact; rw [liveAt_6 t], after_6]
    rw [show (dat V c).leavesExact 7 t = owns (c : Thread nD τ) (ms_7 t) fullShare ((dat V c).after 7 t) from by
      unfold Dat.leavesExact; rw [liveAt_7 t], after_7]
    rw [Dat.leavesExact_idle (dat V c) 8 t (idleAt_8 t h3) (noFlush_8 t h3)]
    rw [show (dat V c).leavesExact 9 t = owns (c : Thread nD τ) (ms_9 t) fullShare ((dat V c).after 9 t) from by
      unfold Dat.leavesExact; rw [liveAt_9 t], after_9]
    rw [Dat.leavesExact_idle (dat V c) 10 t (idleAt_10 t h3) (noFlush_10 t h3)]
    rw [Dat.leavesExact_idle (dat V c) 11 t (idleAt_11 t h3) (noFlush_11 t h3)]
    rw [PhiS_castSucc V c t, PhiS_zero V c _ _ h0, PhiA_eq, accAt_zero V c t h0]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run0_A c (grid0.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) ((hcond0_0 t).mpr h0) (fun h => (hcond0_1 t).mp h h0) (fun h => h3 ((hcond0_2 t).mp h)) (iblk V c 0 t) (iblk V c 1 t) (iblk V c 2 t) (iblk V c 3 t) (iblk V c 4 t) (iblk V c 5 t) (iblk V c 6 t) (iblk V c 7 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    iintro ⟨H0, H1, H2, H3, H4, H5, H6, H7, H8, H9, H10, H11, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    iexists _; iexact H11
  · by_cases h3 : t.val = 3
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveC_8 t h3], after_8]
      rw [show (dat V c).leavesExact 9 t = owns (c : Thread nD τ) (ms_9 t) fullShare ((dat V c).after 9 t) from by
        unfold Dat.leavesExact; rw [liveAt_9 t], after_9]
      rw [show (dat V c).leavesExact 10 t = owns (c : Thread nD τ) (ms_10 t) fullShare ((dat V c).after 10 t) from by
        unfold Dat.leavesExact; rw [liveC_10 t h3], after_10]
      rw [show (dat V c).leavesExact 11 t = owns (c : Thread nD τ) (ms_11 t) fullShare ((dat V c).after 11 t) from by
        unfold Dat.leavesExact; rw [liveC_11 t h3], after_11]
      rw [PhiS_castSucc V c t, PhiS_pos V c _ _ h0, qAt, accAt_pos V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run0_C c (grid0.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) (fun h => h0 ((hcond0_0 t).mp h)) ((hcond0_1 t).mpr h0) ((hcond0_2 t).mpr h3) (iblk V c 0 t) (iblk V c 1 t) (iblk V c 2 t) (iblk V c 3 t) (iblk V c 4 t) (iblk V c 5 t) (iblk V c 6 t) (iblk V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, H8, H9, H10, H11, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · skip
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [Dat.leavesExact_idle (dat V c) 8 t (idleAt_8 t h3) (noFlush_8 t h3)]
      rw [show (dat V c).leavesExact 9 t = owns (c : Thread nD τ) (ms_9 t) fullShare ((dat V c).after 9 t) from by
        unfold Dat.leavesExact; rw [liveAt_9 t], after_9]
      rw [Dat.leavesExact_idle (dat V c) 10 t (idleAt_10 t h3) (noFlush_10 t h3)]
      rw [Dat.leavesExact_idle (dat V c) 11 t (idleAt_11 t h3) (noFlush_11 t h3)]
      rw [PhiS_castSucc V c t, PhiS_pos V c _ _ h0, accAt_pos V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run0_B c (grid0.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) (fun h => h0 ((hcond0_0 t).mp h)) ((hcond0_1 t).mpr h0) (fun h => h3 ((hcond0_2 t).mp h)) (iblk V c 0 t) (iblk V c 1 t) (iblk V c 2 t) (iblk V c 3 t) (iblk V c 4 t) (iblk V c 5 t) (iblk V c 6 t) (iblk V c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      iintro ⟨H0, H1, H2, H3, H4, H5, H6, H7, H8, H9, H10, H11, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      iexists _; iexact H11

/-- The body table's row at point `t` is the body at that point's buffers. -/
theorem defs₀_row (t : Fin cfg0.N) : defs₀ (F := F) .tc cfg0.body (cfg0.bodyArgs t (cfg0.slots t)) = bodyAt0 t := by
  unfold defs₀; rw [Defs.onTc_tc]

/-- The pipeline's obligation about the body, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
/-- After the last point the invariant gives back what the launch handed over. -/
theorem hout (c : Dev nD) : (dat V c).Φ (Fin.last cfg0.N) ⊢ Pipeline.ΦA spec0 c := by
  rw [show (dat V c).Φ (Fin.last cfg0.N) = PhiS V c cfg0.N le_rfl from rfl, PhiS_pos V c _ _ (by have : cfg0.N = 4 := N_0; omega), PhiA_eq]
  iintro ⟨⟨HS0, HR⟩, Hg⟩
  isplitl [HS0 HR]
  · isplitl [HS0]
    · iexists _; iexact HS0
    iexact HR
  iexact Hg

end Cert.KernelIdeal.Prep

end
-- ==== Proof.KernelIdeal.MainRuns.lean ====
/- The main call: its branch conditions, and what one run of its body does in each of the four cases its
   conditions allow (first or later image, first or second half of the contracted axis). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions, over the grid's points -/

/-- The condition of the first branch: the point is one of the first image's. -/
abbrev condB (i : grid1.Coords) : Prop := k1_cond1 i = 1#1
theorem hcondB : ∀ t : Fin cfg1.N, condB (grid1.coords t) ↔ t.val < 2 :=
  (by decide +kernel : ∀ t : Fin grid1.N, condB (grid1.coords t) ↔ t.val < 2)
/-- The condition of the second branch: not the last half. -/
abbrev condL (i : grid1.Coords) : Prop := (Scalar.cmpi .ne (Scalar.extui (Scalar.cmpi .slt (BitVec.ofNat 32 (i 1).val) 1#32)) 0#32) = 1#1
theorem hcondL : ∀ t : Fin cfg1.N, condL (grid1.coords t) ↔ t.val % 2 = 0 :=
  (by decide +kernel : ∀ t : Fin grid1.N, condL (grid1.coords t) ↔ t.val % 2 = 0)
/-- The condition of the third branch: the first half. -/
abbrev condZ (i : grid1.Coords) : Prop := (Scalar.cmpi .ne (Scalar.extui (Scalar.cmpi .eq (BitVec.ofNat 32 (i 1).val) 0#32)) 0#32) = 1#1
theorem hcondZ : ∀ t : Fin cfg1.N, condZ (grid1.coords t) ↔ t.val % 2 = 0 :=
  (by decide +kernel : ∀ t : Fin grid1.N, condZ (grid1.coords t) ↔ t.val % 2 = 0)
/-- The condition of the fourth branch: past the first half. -/
abbrev condP (i : grid1.Coords) : Prop := (Scalar.cmpi .ne (Scalar.extui (Scalar.cmpi .sgt (BitVec.ofNat 32 (i 1).val) 0#32)) 0#32) = 1#1
theorem hcondP : ∀ t : Fin cfg1.N, condP (grid1.coords t) ↔ t.val % 2 = 1 :=
  (by decide +kernel : ∀ t : Fin grid1.N, condP (grid1.coords t) ↔ t.val % 2 = 1)
/-- The condition of the last branch: the last half. -/
abbrev condE (i : grid1.Coords) : Prop := k1_cond5 i = 1#1
theorem hcondE : ∀ t : Fin cfg1.N, condE (grid1.coords t) ↔ t.val % 2 = 1 :=
  (by decide +kernel : ∀ t : Fin grid1.N, condE (grid1.coords t) ↔ t.val % 2 = 1)

/-! ## The two slabs of the window kept between points -/

/-- The slab a point stores into and loads from. -/
abbrev slabRect (i : grid1.Coords) : Rect S2x1024x1536 := Rect.unit (s := S2x1024x1536) (k1_off2 i) S1x1024x1536.size (k1_off2_inb i)
/-- The slab as loaded. -/
def slabAt (i : grid1.Coords) (xs : Vec F S2x1024x1536 .bf16) : Vec F S1x1024x1536 .bf16 := View.ld xs (slabRect i)
/-- The two slabs after one was overwritten. -/
def slabPut (i : grid1.Coords) (xs : Vec F S2x1024x1536 .bf16) (w : Vec F S1x1024x1536 .bf16) : Vec F S2x1024x1536 .bf16 := (slabRect i).overlay xs w
/-- What was overlaid through a rectangle reads back through it. -/
theorem ld_overlay {s : Shape} {e : EltTy} (R : Rect s) (X : s.Idx → Elt F e) (G : R.shape.Idx → Elt F e) : View.ld (R.overlay X G) R = G :=
  funext fun x => R.overlay_emb X G x
/-- What lies off a rectangle is not changed by overlaying through it. -/
theorem ld_overlay_ne {s : Shape} {e : EltTy} (R R' : Rect s) (X : s.Idx → Elt F e) (G : R.shape.Idx → Elt F e)
    (h : ∀ x : R'.shape.Idx, R'.idx x ∉ R.set) : View.ld (R.overlay X G) R' = View.ld X R' :=
  funext fun x => R.overlay_of_not_mem X G (h x)
/-- Loads at equal offsets are equal. -/
theorem ld_unit_congr {s : Shape} {e : EltTy} (X : s.Idx → Elt F e) {off off' : Fin s.rank → ℕ} (size : Fin s.rank → ℕ) (h : off = off')
    (inb : ∀ a, off a + size a ≤ s.size a) (inb' : ∀ a, off' a + size a ≤ s.size a) :
    View.ld X (Rect.unit off size inb) = View.ld X (Rect.unit off' size inb') := by
  subst h; rfl
/-- The slab just overwritten reads what was written. -/
theorem slabAt_put (i : grid1.Coords) (xs : Vec F S2x1024x1536 .bf16) (w : Vec F S1x1024x1536 .bf16) : slabAt i (slabPut i xs w) = w := by
  unfold slabAt slabPut
  exact ld_overlay (e := .bf16) (slabRect i) xs w
/-- Loading a slab of a buffer at known contents. -/
theorem ld_slab (a : Memref sig .tc .vmem S2x1024x1536 .bf16) (h : a.IsWhole) (i : grid1.Coords) (xs : Vec F S2x1024x1536 .bf16) (inb : ∀ q, k1_off2 i q + (![1, 1024, 1536] : Fin S2x1024x1536.rank → ℕ) q ≤ S2x1024x1536.size q) :
    View.readAt (Elt F) a.view (Rect.unit (s := S2x1024x1536) (k1_off2 i) ![1, 1024, 1536] inb).toLoadRect (h.unread xs) = slabAt i xs := by
  rw [View.readAt_eq_ld, h.read_unread]; rfl
/-- Reading the buffer after one slab was overwritten. -/
theorem read_slab (a : Memref sig .tc .vmem S2x1024x1536 .bf16) (h : a.IsWhole) (i : grid1.Coords) (xs : Vec F S2x1024x1536 .bf16) (w : Vec F S1x1024x1536 .bf16) (inb) :
    View.read (Elt F) a.view (a.view.writes (Elt F) (h.unread xs) [(⟨Rect.unit (s := S2x1024x1536) (k1_off1 i) S1x1024x1536.size inb, w⟩ : View.Piece (Elt F) S2x1024x1536 .bf16)]) = slabPut i xs w := by
  change View.read (Elt F) a.view (a.view.writes (Elt F) (h.unread xs) [(⟨slabRect i, w⟩ : View.Piece (Elt F) S2x1024x1536 .bf16)]) = slabPut i xs w
  funext y
  by_cases hy : y ∈ (slabRect i).set
  · obtain ⟨x, rfl⟩ := (slabRect i).exists_idx_of_mem hy
    exact (View.read_writes_cons_emb _ _ _ _ _ x).trans ((slabRect i).overlay_emb xs w x).symm
  · rw [View.read_writes_apply_of_forall_not_mem _ _ _ _ (by intro p hp; rw [List.mem_singleton] at hp; subst hp; exact hy), h.read_unread]
    exact ((slabRect i).overlay_of_not_mem xs w hy).symm
/-- Loading the slab just overwritten. -/
theorem cov_slab (a : Memref sig .tc .vmem S2x1024x1536 .bf16) (i : grid1.Coords) (w : Vec F S1x1024x1536 .bf16) (L : List (View.Piece (Elt F) S2x1024x1536 .bf16)) (inb : ∀ q, k1_off1 i q + (![1, 1024, 1536] : Fin S2x1024x1536.rank → ℕ) q ≤ S2x1024x1536.size q) (inb' : ∀ q, k1_off2 i q + (![1, 1024, 1536] : Fin S2x1024x1536.rank → ℕ) q ≤ S2x1024x1536.size q) :
    a.view.readCov ((⟨Rect.unit (s := S2x1024x1536) (k1_off1 i) ![1, 1024, 1536] inb, w⟩ : View.Piece (Elt F) S2x1024x1536 .bf16) :: L) (Rect.unit (s := S2x1024x1536) (k1_off2 i) ![1, 1024, 1536] inb').toLoadRect = w :=
  funext fun x => View.read_writes_cons_emb a.view _ (slabRect i) w L x

/-- Loading part of a buffer at known contents. -/
theorem sub_S1x256 (a : Memref sig .tc .vmem S1x1024 .f32) (h : a.IsWhole) (off : Fin S1x1024.rank → ℕ) (inb : ∀ q, off q + (![1, 256] : Fin S1x1024.rank → ℕ) q ≤ S1x1024.size q) (x : Vec F S1x1024 .f32) :
    View.readAt (Elt F) a.view (Rect.unit (s := S1x1024) off ![1, 256] inb).toLoadRect (h.unread x) = View.ld x (Rect.unit (s := S1x1024) off ![1, 256] inb) := by
  rw [View.readAt_eq_ld, h.read_unread]
/-- Loading part of a buffer at known contents. -/
theorem sub_S1x1x768x256 (a : Memref sig .tc .vmem S2x4x768x256 .bf16) (h : a.IsWhole) (off : Fin S2x4x768x256.rank → ℕ) (inb : ∀ q, off q + (![1, 1, 768, 256] : Fin S2x4x768x256.rank → ℕ) q ≤ S2x4x768x256.size q) (x : Vec F S2x4x768x256 .bf16) :
    View.readAt (Elt F) a.view (Rect.unit (s := S2x4x768x256) off ![1, 1, 768, 256] inb).toLoadRect (h.unread x) = View.ld x (Rect.unit (s := S2x4x768x256) off ![1, 1, 768, 256] inb) := by
  rw [View.readAt_eq_ld, h.read_unread]
/-- Loading a whole buffer reads its contents. -/
theorem ld_S1x1024x1536_f32 (a : Memref sig .tc .vmem S1x1024x1536 .f32) (h : a.IsWhole) (inb : ∀ q, (![0, 0, 0] : Fin S1x1024x1536.rank → ℕ) q + (![1, 1024, 1536] : Fin S1x1024x1536.rank → ℕ) q ≤ S1x1024x1536.size q) (x : Vec F S1x1024x1536 .f32) :
    View.readAt (Elt F) a.view (Rect.unit (s := S1x1024x1536) ![0, 0, 0] ![1, 1024, 1536] inb).toLoadRect (h.unread x) = x :=
  (View.readAt_full a.view _ (fun q => by have := inb q; fin_cases q <;> simp_all [S1x1024x1536])).trans (h.read_unread x)
/-- Loading a whole buffer reads its contents. -/
theorem ld_S1024x1536_bf16 (a : Memref sig .tc .vmem S1024x1536 .bf16) (h : a.IsWhole) (inb : ∀ q, (![0, 0] : Fin S1024x1536.rank → ℕ) q + (![1024, 1536] : Fin S1024x1536.rank → ℕ) q ≤ S1024x1536.size q) (x : Vec F S1024x1536 .bf16) :
    View.readAt (Elt F) a.view (Rect.unit (s := S1024x1536) ![0, 0] ![1024, 1536] inb).toLoadRect (h.unread x) = x :=
  (View.readAt_full a.view _ (fun q => by have := inb q; fin_cases q <;> simp_all [S1024x1536])).trans (h.read_unread x)
/-- Loading a whole buffer reads its contents. -/
theorem ld_S1x1024_f32 (a : Memref sig .tc .vmem S1x1024 .f32) (h : a.IsWhole) (inb : ∀ q, (![0, 0] : Fin S1x1024.rank → ℕ) q + (![1, 1024] : Fin S1x1024.rank → ℕ) q ≤ S1x1024.size q) (x : Vec F S1x1024 .f32) :
    View.readAt (Elt F) a.view (Rect.unit (s := S1x1024) ![0, 0] ![1, 1024] inb).toLoadRect (h.unread x) = x :=
  (View.readAt_full a.view _ (fun q => by have := inb q; fin_cases q <;> simp_all [S1x1024])).trans (h.read_unread x)
/-- Loading a whole buffer reads its contents. -/
theorem ld_S1024x1024_bf16 (a : Memref sig .tc .vmem S1024x1024 .bf16) (h : a.IsWhole) (inb : ∀ q, (![0, 0] : Fin S1024x1024.rank → ℕ) q + (![1024, 1024] : Fin S1024x1024.rank → ℕ) q ≤ S1024x1024.size q) (x : Vec F S1024x1024 .bf16) :
    View.readAt (Elt F) a.view (Rect.unit (s := S1024x1024) ![0, 0] ![1024, 1024] inb).toLoadRect (h.unread x) = x :=
  (View.readAt_full a.view _ (fun q => by have := inb q; fin_cases q <;> simp_all [S1024x1024])).trans (h.read_unread x)
/-- Loading a whole buffer reads its contents. -/
theorem ld_S2x4x768x256_bf16 (a : Memref sig .tc .vmem S2x4x768x256 .bf16) (h : a.IsWhole) (inb : ∀ q, (![0, 0, 0, 0] : Fin S2x4x768x256.rank → ℕ) q + (![2, 4, 768, 256] : Fin S2x4x768x256.rank → ℕ) q ≤ S2x4x768x256.size q) (x : Vec F S2x4x768x256 .bf16) :
    View.readAt (Elt F) a.view (Rect.unit (s := S2x4x768x256) ![0, 0, 0, 0] ![2, 4, 768, 256] inb).toLoadRect (h.unread x) = x :=
  (View.readAt_full a.view _ (fun q => by have := inb q; fin_cases q <;> simp_all [S2x4x768x256])).trans (h.read_unread x)
/-- Loading a whole buffer reads its contents. -/
theorem ld_S100x1024_bf16 (a : Memref sig .tc .vmem S100x1024 .bf16) (h : a.IsWhole) (inb : ∀ q, (![0, 0] : Fin S100x1024.rank → ℕ) q + (![100, 1024] : Fin S100x1024.rank → ℕ) q ≤ S100x1024.size q) (x : Vec F S100x1024 .bf16) :
    View.readAt (Elt F) a.view (Rect.unit (s := S100x1024) ![0, 0] ![100, 1024] inb).toLoadRect (h.unread x) = x :=
  (View.readAt_full a.view _ (fun q => by have := inb q; fin_cases q <;> simp_all [S100x1024])).trans (h.read_unread x)
/-- Loading a whole buffer reads its contents. -/
theorem ld_S100x1_f32 (a : Memref sig .tc .vmem S100x1 .f32) (h : a.IsWhole) (inb : ∀ q, (![0, 0] : Fin S100x1.rank → ℕ) q + (![100, 1] : Fin S100x1.rank → ℕ) q ≤ S100x1.size q) (x : Vec F S100x1 .f32) :
    View.readAt (Elt F) a.view (Rect.unit (s := S100x1) ![0, 0] ![100, 1] inb).toLoadRect (h.unread x) = x :=
  (View.readAt_full a.view _ (fun q => by have := inb q; fin_cases q <;> simp_all [S100x1])).trans (h.read_unread x)
/-- Loading a whole buffer reads its contents. -/
theorem ld_S1x100x1024_f32 (a : Memref sig .tc .vmem S1x100x1024 .f32) (h : a.IsWhole) (inb : ∀ q, (![0, 0, 0] : Fin S1x100x1024.rank → ℕ) q + (![1, 100, 1024] : Fin S1x100x1024.rank → ℕ) q ≤ S1x100x1024.size q) (x : Vec F S1x100x1024 .f32) :
    View.readAt (Elt F) a.view (Rect.unit (s := S1x100x1024) ![0, 0, 0] ![1, 100, 1024] inb).toLoadRect (h.unread x) = x :=
  (View.readAt_full a.view _ (fun q => by have := inb q; fin_cases q <;> simp_all [S1x100x1024])).trans (h.read_unread x)
/-- Loading a whole buffer reads its contents. -/
theorem ld_S1024x1024_f32 (a : Memref sig .tc .vmem S1024x1024 .f32) (h : a.IsWhole) (inb : ∀ q, (![0, 0] : Fin S1024x1024.rank → ℕ) q + (![1024, 1024] : Fin S1024x1024.rank → ℕ) q ≤ S1024x1024.size q) (x : Vec F S1024x1024 .f32) :
    View.readAt (Elt F) a.view (Rect.unit (s := S1024x1024) ![0, 0] ![1024, 1024] inb).toLoadRect (h.unread x) = x :=
  (View.readAt_full a.view _ (fun q => by have := inb q; fin_cases q <;> simp_all [S1024x1024])).trans (h.read_unread x)
/-- Loading a whole buffer after it was overwritten reads what was written. -/
theorem cov_S1024x1024_f32 (a : Memref sig .tc .vmem S1024x1024 .f32) (inb : ∀ q, (![0, 0] : Fin S1024x1024.rank → ℕ) q + (![1024, 1024] : Fin S1024x1024.rank → ℕ) q ≤ S1024x1024.size q) (inb' : ∀ q, (![0, 0] : Fin S1024x1024.rank → ℕ) q + S1024x1024.size q ≤ S1024x1024.size q) (w : Vec F S1024x1024 .f32) (L : List (View.Piece (Elt F) S1024x1024 .f32)) :
    a.view.readCov ((⟨Rect.unit (s := S1024x1024) ![0, 0] S1024x1024.size inb', w⟩ : View.Piece (Elt F) S1024x1024 .f32) :: L) (Rect.unit (s := S1024x1024) ![0, 0] ![1024, 1024] inb).toLoadRect = w :=
  Cert.Shared.readCov_store a.view inb' (fun q => by have := inb' q; fin_cases q <;> simp_all [S1024x1024]) w L
/-- Loading a whole buffer reads its contents. -/
theorem ld_S2x1024x1536_bf16 (a : Memref sig .tc .vmem S2x1024x1536 .bf16) (h : a.IsWhole) (inb : ∀ q, (![0, 0, 0] : Fin S2x1024x1536.rank → ℕ) q + (![2, 1024, 1536] : Fin S2x1024x1536.rank → ℕ) q ≤ S2x1024x1536.size q) (x : Vec F S2x1024x1536 .bf16) :
    View.readAt (Elt F) a.view (Rect.unit (s := S2x1024x1536) ![0, 0, 0] ![2, 1024, 1536] inb).toLoadRect (h.unread x) = x :=
  (View.readAt_full a.view _ (fun q => by have := inb q; fin_cases q <;> simp_all [S2x1024x1536])).trans (h.read_unread x)

/-- What the last half's point stores: the finished image, from its buffers' contents, the slab and the accumulator. -/
def outVal (x0 : Vec F S1x1024x1536 .f32) (s : Vec F S1x1024x1536 .bf16) (acc : Vec F S1024x1024 .f32) (x2 : Vec F S1x1024 .f32) (x3 : Vec F S1024x1024 .bf16) (x4 : Vec F S2x4x768x256 .bf16) (x5 : Vec F S1x1024 .f32) (x6 : Vec F S1x1024 .f32) (x7 : Vec F S1x1024 .f32) (x8 : Vec F S1x1024 .f32) (x9 : Vec F S100x1024 .bf16) (x10 : Vec F S100x1 .f32) : Vec F S1x100x1024 .f32 :=
  let v9 := k1_pay2 x0 s
  let v25 := k1_pay6 v9 acc x2 x3
  let v54 := k1_pay7 (View.ld x6 (Rect.unit (s := S1x1024) ![0, 0] S1x256.size inb_S1x1024_S1x256_0_0))
  let v55 := k1_pay8 v9 acc x2 x3 (View.ld x5 (Rect.unit (s := S1x1024) ![0, 0] S1x256.size inb_S1x1024_S1x256_0_0)) (View.ld x4 (Rect.unit (s := S2x4x768x256) ![0, 0, 0, 0] S1x1x768x256.size inb_S2x4x768x256_S1x1x768x256_0_0_0_0))
  let v70 := k1_pay9 v54 v55 (View.ld x4 (Rect.unit (s := S2x4x768x256) ![1, 0, 0, 0] S1x1x768x256.size inb_S2x4x768x256_S1x1x768x256_1_0_0_0))
  let v97 := k1_pay10 v25 (View.ld x5 (Rect.unit (s := S1x1024) ![0, 256] S1x256.size inb_S1x1024_S1x256_0_256)) (View.ld x4 (Rect.unit (s := S2x4x768x256) ![0, 1, 0, 0] S1x1x768x256.size inb_S2x4x768x256_S1x1x768x256_0_1_0_0))
  let v115 := k1_pay11 v97 (View.ld x6 (Rect.unit (s := S1x1024) ![0, 256] S1x256.size inb_S1x1024_S1x256_0_256)) (View.ld x4 (Rect.unit (s := S2x4x768x256) ![1, 1, 0, 0] S1x1x768x256.size inb_S2x4x768x256_S1x1x768x256_1_1_0_0))
  let v136 := k1_pay13 v25 (View.ld x5 (Rect.unit (s := S1x1024) ![0, 512] S1x256.size inb_S1x1024_S1x256_0_512)) (View.ld x4 (Rect.unit (s := S2x4x768x256) ![0, 2, 0, 0] S1x1x768x256.size inb_S2x4x768x256_S1x1x768x256_0_2_0_0))
  let v139 := k1_pay14 v25 (View.ld x5 (Rect.unit (s := S1x1024) ![0, 512] S1x256.size inb_S1x1024_S1x256_0_512)) (View.ld x4 (Rect.unit (s := S2x4x768x256) ![0, 2, 0, 0] S1x1x768x256.size inb_S2x4x768x256_S1x1x768x256_0_2_0_0))
  let cst_59 := (Scalar.ofBits .f32 0x3F800000#32)
  let v160 := k1_pay15 v136 v139 cst_59 (View.ld x6 (Rect.unit (s := S1x1024) ![0, 512] S1x256.size inb_S1x1024_S1x256_0_512)) (View.ld x4 (Rect.unit (s := S2x4x768x256) ![1, 2, 0, 0] S1x1x768x256.size inb_S2x4x768x256_S1x1x768x256_1_2_0_0))
  let v179 := k1_pay16 v25 (View.ld x5 (Rect.unit (s := S1x1024) ![0, 768] S1x256.size inb_S1x1024_S1x256_0_768)) (View.ld x4 (Rect.unit (s := S2x4x768x256) ![0, 3, 0, 0] S1x1x768x256.size inb_S2x4x768x256_S1x1x768x256_0_3_0_0))
  let v181 := k1_pay17 v25 (View.ld x5 (Rect.unit (s := S1x1024) ![0, 768] S1x256.size inb_S1x1024_S1x256_0_768)) (View.ld x4 (Rect.unit (s := S2x4x768x256) ![0, 3, 0, 0] S1x1x768x256.size inb_S2x4x768x256_S1x1x768x256_0_3_0_0))
  let cst_75 := (Named.named κ "inv_sqrt2" 0x3F3504F3#32)
  let v222 := k1_pay18 v70 v115 v160 v179 v181 cst_75 (View.ld x6 (Rect.unit (s := S1x1024) ![0, 768] S1x256.size inb_S1x1024_S1x256_0_768)) (View.ld x4 (Rect.unit (s := S2x4x768x256) ![1, 3, 0, 0] S1x1x768x256.size inb_S2x4x768x256_S1x1x768x256_1_3_0_0))
  let v225 := k1_pay19 x7
  k1_pay5 v222 v225 x8 x9 x10

set_option maxHeartbeats 8000000 in
/-- First image, first half: the slab is stored, the accumulator is started from it. -/
theorem run1_00 (c : Dev nD) (i : grid1.Coords) (arg2 : Memref sig .tc .vmem S1x1024x1536 .f32) (harg2 : arg2.IsWhole) (arg3 : Memref sig .tc .vmem S1024x1536 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2x4x768x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S100x1024 .bf16) (harg11 : arg11.IsWhole) (arg12 : Memref sig .tc .vmem S100x1 .f32) (harg12 : arg12.IsWhole) (arg13 : Memref sig .tc .vmem S1x100x1024 .f32) (harg13 : arg13.IsWhole) (arg14 : Memref sig .tc .vmem S1024x1024 .f32) (harg14 : arg14.IsWhole) (arg15 : Memref sig .tc .vmem S2x1024x1536 .bf16) (harg15 : arg15.IsWhole)
    (hB : condB i) (hL : condL i) (hZ : condZ i) (hP : ¬condP i) (hE : ¬condE i) (x0 : Vec F S1x1024x1536 .f32) (x1 : Vec F S1024x1536 .bf16) (x2 : Vec F S1x1024 .f32) (x3 : Vec F S1024x1024 .bf16) (x4 : Vec F S2x4x768x256 .bf16) (x5 : Vec F S1x1024 .f32) (x6 : Vec F S1x1024 .f32) (x7 : Vec F S1x1024 .f32) (x8 : Vec F S1x1024 .f32) (x9 : Vec F S100x1024 .bf16) (x10 : Vec F S100x1 .f32) (xs1 : Vec F S2x1024x1536 .bf16) (xi13 : Vec F S1x100x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi13 ∗ (∃ d, owns (c : Thread nD τ) arg14 fullShare d) ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi13 ∗ owns (c : Thread nD τ) arg14 fullShare (k1_pay3 x0 (k1_pay1 x1)) ∗ owns (c : Thread nD τ) arg15 fullShare (slabPut i xs1 (k1_pay1 x1))) -∗ K ⟨⟩))
      ⊢ wp frame (wpE (defs₀ (F := F)) Variants.none c none) E (cc1_csm_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_csm_main_eq_skeleton]; unfold cc1_csm_main_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dS0, %fS0, -, HS0⟩, ⟨%fS1, %hfS1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfS1
  sl_exec (disch := first | sl_exact hB | sl_exact hL | sl_exact hZ | sl_exact hP | sl_exact hE)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; swap; · iexact HS0
    ipureintro; refine (Cert.Shared.read_store _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]
  iexists _; isplitr; swap; · iexact HS1
  ipureintro; refine (read_slab _ _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]

set_option maxHeartbeats 8000000 in
/-- Later image, first half: the accumulator is started from the slab. -/
theorem run1_10 (c : Dev nD) (i : grid1.Coords) (arg2 : Memref sig .tc .vmem S1x1024x1536 .f32) (harg2 : arg2.IsWhole) (arg3 : Memref sig .tc .vmem S1024x1536 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2x4x768x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S100x1024 .bf16) (harg11 : arg11.IsWhole) (arg12 : Memref sig .tc .vmem S100x1 .f32) (harg12 : arg12.IsWhole) (arg13 : Memref sig .tc .vmem S1x100x1024 .f32) (harg13 : arg13.IsWhole) (arg14 : Memref sig .tc .vmem S1024x1024 .f32) (harg14 : arg14.IsWhole) (arg15 : Memref sig .tc .vmem S2x1024x1536 .bf16) (harg15 : arg15.IsWhole)
    (hB : ¬condB i) (hL : condL i) (hZ : condZ i) (hP : ¬condP i) (hE : ¬condE i) (x0 : Vec F S1x1024x1536 .f32) (x1 : Vec F S1024x1536 .bf16) (x2 : Vec F S1x1024 .f32) (x3 : Vec F S1024x1024 .bf16) (x4 : Vec F S2x4x768x256 .bf16) (x5 : Vec F S1x1024 .f32) (x6 : Vec F S1x1024 .f32) (x7 : Vec F S1x1024 .f32) (x8 : Vec F S1x1024 .f32) (x9 : Vec F S100x1024 .bf16) (x10 : Vec F S100x1 .f32) (xs1 : Vec F S2x1024x1536 .bf16) (xi13 : Vec F S1x100x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi13 ∗ (∃ d, owns (c : Thread nD τ) arg14 fullShare d) ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi13 ∗ owns (c : Thread nD τ) arg14 fullShare (k1_pay3 x0 (slabAt i xs1)) ∗ owns (c : Thread nD τ) arg15 fullShare xs1) -∗ K ⟨⟩))
      ⊢ wp frame (wpE (defs₀ (F := F)) Variants.none c none) E (cc1_csm_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_csm_main_eq_skeleton]; unfold cc1_csm_main_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dS0, %fS0, -, HS0⟩, ⟨%fS1, %hfS1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfS1
  sl_exec (disch := first | sl_exact hB | sl_exact hL | sl_exact hZ | sl_exact hP | sl_exact hE)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [HS0]
  · iexists _; isplitr; swap; · iexact HS0
    ipureintro; refine (Cert.Shared.read_store _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]
  iexists _; isplitr; · ipureintro; exact harg15.read_unread _
  iexact HS1

end Cert.KernelIdeal.Main

end
-- ==== Proof.KernelIdeal.MainC.lean ====
/- The main call: what one run of its body does at the second half's points. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared
public import proofs.«01_k».proof.Proof.KernelIdeal.MainRuns

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
set_option maxHeartbeats 8000000 in
/-- First image, second half: the slab is stored, the image is finished. -/
theorem run1_01 (c : Dev nD) (i : grid1.Coords) (arg2 : Memref sig .tc .vmem S1x1024x1536 .f32) (harg2 : arg2.IsWhole) (arg3 : Memref sig .tc .vmem S1024x1536 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2x4x768x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S100x1024 .bf16) (harg11 : arg11.IsWhole) (arg12 : Memref sig .tc .vmem S100x1 .f32) (harg12 : arg12.IsWhole) (arg13 : Memref sig .tc .vmem S1x100x1024 .f32) (harg13 : arg13.IsWhole) (arg14 : Memref sig .tc .vmem S1024x1024 .f32) (harg14 : arg14.IsWhole) (arg15 : Memref sig .tc .vmem S2x1024x1536 .bf16) (harg15 : arg15.IsWhole)
    (hB : condB i) (hL : ¬condL i) (hZ : ¬condZ i) (hP : condP i) (hE : condE i) (x0 : Vec F S1x1024x1536 .f32) (x1 : Vec F S1024x1536 .bf16) (x2 : Vec F S1x1024 .f32) (x3 : Vec F S1024x1024 .bf16) (x4 : Vec F S2x4x768x256 .bf16) (x5 : Vec F S1x1024 .f32) (x6 : Vec F S1x1024 .f32) (x7 : Vec F S1x1024 .f32) (x8 : Vec F S1x1024 .f32) (x9 : Vec F S100x1024 .bf16) (x10 : Vec F S100x1 .f32) (xs0 : Vec F S1024x1024 .f32) (xs1 : Vec F S2x1024x1536 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outVal x0 (k1_pay1 x1) xs0 x2 x3 x4 x5 x6 x7 x8 x9 x10) ∗ owns (c : Thread nD τ) arg14 fullShare xs0 ∗ owns (c : Thread nD τ) arg15 fullShare (slabPut i xs1 (k1_pay1 x1))) -∗ K ⟨⟩))
      ⊢ wp frame (wpE (defs₀ (F := F)) Variants.none c none) E (cc1_csm_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_csm_main_eq_skeleton]; unfold cc1_csm_main_skel
  simp only [k1_part1_eq_skeleton, k1_part2_eq_skeleton, k1_part3_eq_skeleton, k1_part4_eq_skeleton, k1_part5_eq_skeleton]; unfold k1_part1_skel; unfold k1_part2_skel; unfold k1_part3_skel; unfold k1_part4_skel; unfold k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fS0, %hfS0, HS0⟩, ⟨%fS1, %hfS1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfS0; obtain rfl := harg15.eq_unread hfS1
  sl_exec (disch := first | sl_exact hB | sl_exact hL | sl_exact hZ | sl_exact hP | sl_exact hE)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; refine (Cert.Shared.read_store _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]; rfl
  isplitl [HS0]
  · iexists _; isplitr; · ipureintro; exact harg14.read_unread _
    iexact HS0
  iexists _; isplitr; swap; · iexact HS1
  ipureintro; refine (read_slab _ _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]

set_option maxHeartbeats 8000000 in
/-- Later image, second half: the image is finished. -/
theorem run1_11 (c : Dev nD) (i : grid1.Coords) (arg2 : Memref sig .tc .vmem S1x1024x1536 .f32) (harg2 : arg2.IsWhole) (arg3 : Memref sig .tc .vmem S1024x1536 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2x4x768x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S100x1024 .bf16) (harg11 : arg11.IsWhole) (arg12 : Memref sig .tc .vmem S100x1 .f32) (harg12 : arg12.IsWhole) (arg13 : Memref sig .tc .vmem S1x100x1024 .f32) (harg13 : arg13.IsWhole) (arg14 : Memref sig .tc .vmem S1024x1024 .f32) (harg14 : arg14.IsWhole) (arg15 : Memref sig .tc .vmem S2x1024x1536 .bf16) (harg15 : arg15.IsWhole)
    (hB : ¬condB i) (hL : ¬condL i) (hZ : ¬condZ i) (hP : condP i) (hE : condE i) (x0 : Vec F S1x1024x1536 .f32) (x1 : Vec F S1024x1536 .bf16) (x2 : Vec F S1x1024 .f32) (x3 : Vec F S1024x1024 .bf16) (x4 : Vec F S2x4x768x256 .bf16) (x5 : Vec F S1x1024 .f32) (x6 : Vec F S1x1024 .f32) (x7 : Vec F S1x1024 .f32) (x8 : Vec F S1x1024 .f32) (x9 : Vec F S100x1024 .bf16) (x10 : Vec F S100x1 .f32) (xs0 : Vec F S1024x1024 .f32) (xs1 : Vec F S2x1024x1536 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outVal x0 (slabAt i xs1) xs0 x2 x3 x4 x5 x6 x7 x8 x9 x10) ∗ owns (c : Thread nD τ) arg14 fullShare xs0 ∗ owns (c : Thread nD τ) arg15 fullShare xs1) -∗ K ⟨⟩))
      ⊢ wp frame (wpE (defs₀ (F := F)) Variants.none c none) E (cc1_csm_main i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_csm_main_eq_skeleton]; unfold cc1_csm_main_skel
  simp only [k1_part1_eq_skeleton, k1_part2_eq_skeleton, k1_part3_eq_skeleton, k1_part4_eq_skeleton, k1_part5_eq_skeleton]; unfold k1_part1_skel; unfold k1_part2_skel; unfold k1_part3_skel; unfold k1_part4_skel; unfold k1_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fS0, %hfS0, HS0⟩, ⟨%fS1, %hfS1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfS0; obtain rfl := harg15.eq_unread hfS1
  sl_exec (disch := first | sl_exact hB | sl_exact hL | sl_exact hZ | sl_exact hP | sl_exact hE)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; refine (Cert.Shared.read_store _ _ _ _ _).trans ?_; sl_unfold_run_names; simp only [ld_S1x1024x1536_f32, ld_S1024x1536_bf16, ld_S1x1024_f32, ld_S1024x1024_bf16, ld_S2x4x768x256_bf16, ld_S100x1024_bf16, ld_S100x1_f32, ld_S1x100x1024_f32, ld_S1024x1024_f32, cov_S1024x1024_f32, ld_S2x1024x1536_bf16, sub_S1x256, sub_S1x1x768x256, ld_slab, cov_slab]; rfl
  isplitl [HS0]
  · iexists _; isplitr; · ipureintro; exact harg14.read_unread _
    iexact HS0
  iexists _; isplitr; · ipureintro; exact harg15.read_unread _
  iexact HS1

end Cert.KernelIdeal.Main

end
-- ==== Proof.KernelIdeal.MainBody.lean ====
/- The main call over its grid: what every buffer holds at every point, and the pipeline's obligation about the body. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared
public import proofs.«01_k».proof.Proof.KernelIdeal.MainC

@[expose] public section

set_option maxRecDepth 16384

noncomputable section

namespace Cert.KernelIdeal.Main

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` reads of its array at point `t`, the arrays being at `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, given data that keeps it there. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, given data that keeps it there. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, given data that keeps it there. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, given data that keeps it there. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, given data that keeps it there. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, given data that keeps it there. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, given data that keeps it there. -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, given data that keeps it there. -/
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, given data that keeps it there. -/
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, given data that keeps it there. -/
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, given data that keeps it there. -/
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Window 0's current staging buffer at point `t`. -/
abbrev ms_0 (t : Fin cfg1.N) : Memref sig .tc .vmem S1x1024x1536 .f32 := win1_0.stage (cfg1.slots t 0)
theorem hs_0 (t : Fin cfg1.N) : (ms_0 t).IsWhole := hstage1_0 ((cfg1.slots t 0).cast nbuf1_0)
/-- Window 1's current staging buffer at point `t`. -/
abbrev ms_1 (t : Fin cfg1.N) : Memref sig .tc .vmem S1024x1536 .bf16 := win1_1.stage (cfg1.slots t 1)
theorem hs_1 (t : Fin cfg1.N) : (ms_1 t).IsWhole := hstage1_1 ((cfg1.slots t 1).cast nbuf1_1)
/-- Window 2's current staging buffer at point `t`. -/
abbrev ms_2 (t : Fin cfg1.N) : Memref sig .tc .vmem S1x1024 .f32 := win1_2.stage (cfg1.slots t 2)
theorem hs_2 (t : Fin cfg1.N) : (ms_2 t).IsWhole := hstage1_2 ((cfg1.slots t 2).cast nbuf1_2)
/-- Window 3's current staging buffer at point `t`. -/
abbrev ms_3 (t : Fin cfg1.N) : Memref sig .tc .vmem S1024x1024 .bf16 := win1_3.stage (cfg1.slots t 3)
theorem hs_3 (t : Fin cfg1.N) : (ms_3 t).IsWhole := hstage1_3 ((cfg1.slots t 3).cast nbuf1_3)
/-- Window 4's current staging buffer at point `t`. -/
abbrev ms_4 (t : Fin cfg1.N) : Memref sig .tc .vmem S2x4x768x256 .bf16 := win1_4.stage (cfg1.slots t 4)
theorem hs_4 (t : Fin cfg1.N) : (ms_4 t).IsWhole := hstage1_4 ((cfg1.slots t 4).cast nbuf1_4)
/-- Window 5's current staging buffer at point `t`. -/
abbrev ms_5 (t : Fin cfg1.N) : Memref sig .tc .vmem S1x1024 .f32 := win1_5.stage (cfg1.slots t 5)
theorem hs_5 (t : Fin cfg1.N) : (ms_5 t).IsWhole := hstage1_5 ((cfg1.slots t 5).cast nbuf1_5)
/-- Window 6's current staging buffer at point `t`. -/
abbrev ms_6 (t : Fin cfg1.N) : Memref sig .tc .vmem S1x1024 .f32 := win1_6.stage (cfg1.slots t 6)
theorem hs_6 (t : Fin cfg1.N) : (ms_6 t).IsWhole := hstage1_6 ((cfg1.slots t 6).cast nbuf1_6)
/-- Window 7's current staging buffer at point `t`. -/
abbrev ms_7 (t : Fin cfg1.N) : Memref sig .tc .vmem S1x1024 .f32 := win1_7.stage (cfg1.slots t 7)
theorem hs_7 (t : Fin cfg1.N) : (ms_7 t).IsWhole := hstage1_7 ((cfg1.slots t 7).cast nbuf1_7)
/-- Window 8's current staging buffer at point `t`. -/
abbrev ms_8 (t : Fin cfg1.N) : Memref sig .tc .vmem S1x1024 .f32 := win1_8.stage (cfg1.slots t 8)
theorem hs_8 (t : Fin cfg1.N) : (ms_8 t).IsWhole := hstage1_8 ((cfg1.slots t 8).cast nbuf1_8)
/-- Window 9's current staging buffer at point `t`. -/
abbrev ms_9 (t : Fin cfg1.N) : Memref sig .tc .vmem S100x1024 .bf16 := win1_9.stage (cfg1.slots t 9)
theorem hs_9 (t : Fin cfg1.N) : (ms_9 t).IsWhole := hstage1_9 ((cfg1.slots t 9).cast nbuf1_9)
/-- Window 10's current staging buffer at point `t`. -/
abbrev ms_10 (t : Fin cfg1.N) : Memref sig .tc .vmem S100x1 .f32 := win1_10.stage (cfg1.slots t 10)
theorem hs_10 (t : Fin cfg1.N) : (ms_10 t).IsWhole := hstage1_10 ((cfg1.slots t 10).cast nbuf1_10)
/-- Window 11's current staging buffer at point `t`. -/
abbrev ms_11 (t : Fin cfg1.N) : Memref sig .tc .vmem S1x100x1024 .f32 := win1_11.stage (cfg1.slots t 11)
theorem hs_11 (t : Fin cfg1.N) : (ms_11 t).IsWhole := hstage1_11 ((cfg1.slots t 11).cast nbuf1_11)

/-- The first image's point with the same half as `t`. -/
def first (t : Fin cfg1.N) : Fin cfg1.N := ⟨t.val % 2, lt_of_lt_of_le (Nat.mod_lt _ (by omega)) (by rw [show cfg1.N = 8 from N_1]; omega)⟩
/-- The window slab of `t`'s half, as stored during the first image. -/
def winAt (c : Dev nD) (t : Fin cfg1.N) : Vec F S1x1024x1536 .bf16 := k1_pay1 (iblk V c 1 (first t))
/-- The accumulator after a first half's point. -/
def accAt (c : Dev nD) (t : Fin cfg1.N) : Vec F S1024x1024 .f32 := k1_pay3 (iblk V c 0 t) (winAt V c t)
/-- The point before `t` (only used at second halves). -/
def prev (t : Fin cfg1.N) : Fin cfg1.N := ⟨t.val - 1, by omega⟩
/-- The image finished at a second half's point. -/
def outAt (c : Dev nD) (t : Fin cfg1.N) : Vec F S1x100x1024 .f32 :=
  outVal (iblk V c 0 t) (winAt V c t) (accAt V c (prev t)) (iblk V c 2 t) (iblk V c 3 t) (iblk V c 4 t) (iblk V c 5 t) (iblk V c 6 t) (iblk V c 7 t) (iblk V c 8 t) (iblk V c 9 t) (iblk V c 10 t)

theorem first_of_lt (t : Fin cfg1.N) (h : t.val < 2) : first t = t := Fin.ext (Nat.mod_eq_of_lt h)
theorem off_first : ∀ t : Fin cfg1.N, k1_off2 (grid1.coords (first t)) = k1_off2 (grid1.coords t) := by decide +kernel
/-- The slab of a point is the slab of the first image's point with the same half. -/
theorem slabAt_first (t : Fin cfg1.N) (xs : Vec F S2x1024x1536 .bf16) : slabAt (grid1.coords (first t)) xs = slabAt (grid1.coords t) xs := by
  unfold slabAt
  exact ld_unit_congr (e := .bf16) xs S1x1024x1536.size (off_first t) _ _
theorem off_val : ∀ t : Fin cfg1.N, k1_off2 (grid1.coords t) = ![t.val % 2, 0, 0] := by decide +kernel
/-- Overwriting one slab keeps the other. -/
theorem slabAt_put_ne (t t' : Fin cfg1.N) (h : t.val % 2 ≠ t'.val % 2) (xs : Vec F S2x1024x1536 .bf16) (w : Vec F S1x1024x1536 .bf16) :
    slabAt (grid1.coords t') (slabPut (grid1.coords t) xs w) = slabAt (grid1.coords t') xs := by
  unfold slabAt slabPut
  refine ld_overlay_ne (e := .bf16) (slabRect (grid1.coords t)) (slabRect (grid1.coords t')) xs w fun x hm => h ?_
  have h1 := (Rect.mem_set_unit.mp hm) 0
  have h2 : (((slabRect (grid1.coords t')).toLoadRect.idx x) 0 : ℕ) = k1_off2 (grid1.coords t') 0 + 1 * (x 0).val := rfl
  have hx : (x 0).val < 1 := (x 0).isLt
  rw [h2] at h1
  rw [off_val t, off_val t'] at h1
  have e1 : (![t.val % 2, 0, 0] : Fin 3 → ℕ) 0 = t.val % 2 := rfl
  have e2 : (![t'.val % 2, 0, 0] : Fin 3 → ℕ) 0 = t'.val % 2 := rfl
  have e3 : S1x1024x1536.size 0 = 1 := rfl
  rw [e1, e2, e3] at h1
  omega

/-- The accumulator buffer. -/
abbrev scA : Memref sig .tc .vmem S1024x1024 .f32 := Memref.whole cc1_scratch0
/-- The buffer of the two slabs. -/
abbrev scW : Memref sig .tc .vmem S2x1024x1536 .bf16 := Memref.whole cc1_scratch1
/-- The other buffers the region keeps, each at something. -/
def Rest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_scratch0), ((c : Thread nD τ).loc cc0_scratch0) ↦{fullShare} f))
theorem PhiA_eq (c : Dev nD) : (Pipeline.ΦA spec1 c : sProp 𝕄)
    = iprop(((∃ d, owns (c : Thread nD τ) scA fullShare d) ∗ (∃ d, owns (c : Thread nD τ) scW fullShare d) ∗ Rest c) ∗ (∃ r, prngReg c r)) := by
  unfold Pipeline.ΦA
  rw [Pipeline.scopedRest_eq_of_list spec1 c [cc1_scratch0, cc1_scratch1, cc0_stg0_0, cc0_stg0_1, cc0_stg1_0, cc0_stg1_1, cc0_stg2_0, cc0_stg3_0, cc0_stg4_0, cc0_stg5_0, cc0_stg6_0, cc0_stg7_0, cc0_stg8_0, cc0_stg9_0, cc0_stg9_1, cc0_stg10_0, cc0_stg11_0, cc0_scratch0] (by decide) (by decide)]
  simp only [scA, scW, owns_whole]; rfl
/-- What the two kept buffers hold before position `n`. -/
def Kept (c : Dev nD) (n : ℕ) (xs0 : Vec F S1024x1024 .f32) (xs1 : Vec F S2x1024x1536 .bf16) : Prop :=
  (∀ t : Fin cfg1.N, t.val + 1 = n → t.val % 2 = 0 → xs0 = accAt V c t)
  ∧ (∀ t : Fin cfg1.N, t.val < 2 → t.val < n → slabAt (grid1.coords t) xs1 = k1_pay1 (iblk V c 1 t))
/-- The invariant before position `n`. -/
def PhiS (c : Dev nD) (n : ℕ) : sProp 𝕄 :=
  iprop((∃ xs0, ∃ xs1, ⌜Kept V c n xs0 xs1⌝ ∗ owns (c : Thread nD τ) scA fullShare xs0 ∗ owns (c : Thread nD τ) scW fullShare xs1 ∗ Rest c) ∗ (∃ r, prngReg c r))

/-- The region's data: the arrays as entered at `V`, what every buffer holds after every point. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outAt V c t
  Φ t := PhiS V c t.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = outAt V c t := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
theorem liveAt_5 : ∀ t : Fin cfg1.N, cfg1.idle 5 (grid1.coords t) = false := fun _ => rfl
theorem liveAt_6 : ∀ t : Fin cfg1.N, cfg1.idle 6 (grid1.coords t) = false := fun _ => rfl
theorem liveAt_7 : ∀ t : Fin cfg1.N, cfg1.idle 7 (grid1.coords t) = false := fun _ => rfl
theorem liveAt_8 : ∀ t : Fin cfg1.N, cfg1.idle 8 (grid1.coords t) = false := fun _ => rfl
theorem liveAt_9 : ∀ t : Fin cfg1.N, cfg1.idle 9 (grid1.coords t) = false := fun _ => rfl
theorem liveAt_10 : ∀ t : Fin cfg1.N, cfg1.idle 10 (grid1.coords t) = false := fun _ => rfl
theorem liveC_11 : ∀ t : Fin cfg1.N, t.val % 2 = 1 → cfg1.idle 11 (grid1.coords t) = false := by decide +kernel
theorem idleAt_11 : ∀ t : Fin cfg1.N, t.val % 2 ≠ 1 → cfg1.idle 11 (grid1.coords t) = true := by decide +kernel
theorem noFlush_11 : ∀ t : Fin cfg1.N, t.val % 2 ≠ 1 → (cfg1.win 11).flush t = false := by decide +kernel

/-- A first half's point of the first image keeps the invariant's record. -/
theorem kept_00 (c : Dev nD) (t : Fin cfg1.N) (hb : t.val < 2) (xs0 : Vec F S1024x1024 .f32) (xs1 : Vec F S2x1024x1536 .bf16) (hk : Kept V c t.val xs0 xs1) :
    Kept V c (t.val + 1) (k1_pay3 (iblk V c 0 t) (k1_pay1 (iblk V c 1 t))) (slabPut (grid1.coords t) xs1 (k1_pay1 (iblk V c 1 t))) := by
  refine ⟨fun t' h _ => ?_, fun t' h2 hn => ?_⟩
  · have e : t' = t := Fin.ext (by omega)
    subst e; unfold accAt winAt; rw [first_of_lt t' hb]
  · by_cases e : t' = t
    · subst e; exact slabAt_put _ _ _
    · have hne : t'.val ≠ t.val := fun h => e (Fin.ext h)
      rw [slabAt_put_ne t t' (by omega)]; exact hk.2 t' h2 (by omega)
/-- A second half's point of the first image keeps the invariant's record. -/
theorem kept_01 (c : Dev nD) (t : Fin cfg1.N) (hb : t.val < 2) (ho : t.val % 2 = 1) (xs0 : Vec F S1024x1024 .f32) (xs1 : Vec F S2x1024x1536 .bf16) (hk : Kept V c t.val xs0 xs1) :
    Kept V c (t.val + 1) xs0 (slabPut (grid1.coords t) xs1 (k1_pay1 (iblk V c 1 t))) := by
  refine ⟨fun t' h h' => absurd h' (by omega), fun t' h2 hn => ?_⟩
  by_cases e : t' = t
  · subst e; exact slabAt_put _ _ _
  · have hne : t'.val ≠ t.val := fun h => e (Fin.ext h)
    rw [slabAt_put_ne t t' (by omega)]; exact hk.2 t' h2 (by omega)
/-- From the second image on a point's slab is the one stored during the first. -/
theorem kept_slab (c : Dev nD) (t : Fin cfg1.N) (hb : ¬t.val < 2) (xs0 : Vec F S1024x1024 .f32) (xs1 : Vec F S2x1024x1536 .bf16) (hk : Kept V c t.val xs0 xs1) :
    slabAt (grid1.coords t) xs1 = winAt V c t := by
  rw [← slabAt_first]; exact hk.2 (first t) (Nat.mod_lt _ (by omega)) (by show t.val % 2 < t.val; omega)
/-- A first half's point of a later image keeps the invariant's record. -/
theorem kept_10 (c : Dev nD) (t : Fin cfg1.N) (xs0 : Vec F S1024x1024 .f32) (xs1 : Vec F S2x1024x1536 .bf16) (hb : ¬t.val < 2) (hk : Kept V c t.val xs0 xs1) :
    Kept V c (t.val + 1) (k1_pay3 (iblk V c 0 t) (slabAt (grid1.coords t) xs1)) xs1 := by
  refine ⟨fun t' h _ => ?_, fun t' h2 hn => hk.2 t' h2 (by omega)⟩
  have e : t' = t := Fin.ext (by omega)
  subst e; unfold accAt; rw [kept_slab V c t' hb xs0 xs1 hk]
/-- A second half's point of a later image keeps the invariant's record. -/
theorem kept_11 (c : Dev nD) (t : Fin cfg1.N) (ho : t.val % 2 = 1) (hb : ¬t.val < 2) (xs0 : Vec F S1024x1024 .f32) (xs1 : Vec F S2x1024x1536 .bf16) (hk : Kept V c t.val xs0 xs1) :
    Kept V c (t.val + 1) xs0 xs1 :=
  ⟨fun t' h h' => absurd h' (by omega), fun t' h2 hn => hk.2 t' h2 (by omega)⟩
/-- At a second half's point the accumulator is the one the point before left. -/
theorem kept_acc (c : Dev nD) (t : Fin cfg1.N) (ho : t.val % 2 = 1) (xs0 : Vec F S1024x1024 .f32) (xs1 : Vec F S2x1024x1536 .bf16) (hk : Kept V c t.val xs0 xs1) :
    xs0 = accAt V c (prev t) := hk.1 (prev t) (by show t.val - 1 + 1 = t.val; omega) (by show (t.val - 1) % 2 = 0; omega)

/-- What the body is handed at point `t`, window by window. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d)))
/-- What the body hands back at point `t`. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t)

set_option maxHeartbeats 14400000 in
/-- The body at any point takes what it is handed to what it must hand back. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10]
  rw [show (dat V c).owesAt () t.succ = (dat V c).owesAt () t.castSucc from rfl]
  rw [show (dat V c).Φ t.succ = PhiS V c (t.val + 1) from rfl]
  rw [show (dat V c).Φ t.castSucc = PhiS V c t.val from rfl]
  unfold PhiS
  by_cases hb : t.val < 2
  · by_cases ho : t.val % 2 = 1
    · have ho0 : ¬t.val % 2 = 0 := by omega
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt_9 t], after_9]
      rw [show (dat V c).leavesExact 10 t = owns (c : Thread nD τ) (ms_10 t) fullShare ((dat V c).after 10 t) from by
        unfold Dat.leavesExact; rw [liveAt_10 t], after_10]
      rw [show (dat V c).leavesExact 11 t = owns (c : Thread nD τ) (ms_11 t) fullShare ((dat V c).after 11 t) from by
        unfold Dat.leavesExact; rw [liveC_11 t ho], after_11]
      iintro ⟨⟨⟨%xs0, %xs1, %hk, HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      obtain rfl := kept_acc V c t ho xs0 xs1 hk
      rw [outAt, winAt, first_of_lt t hb]
      iapply (run1_01 c (grid1.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) _ (Memref.isWhole_whole _) ((hcondB t).mpr hb) (fun h => ho0 ((hcondL t).mp h)) (fun h => ho0 ((hcondZ t).mp h)) ((hcondP t).mpr ho) ((hcondE t).mpr ho) (iblk V c 0 t) (iblk V c 1 t) (iblk V c 2 t) (iblk V c 3 t) (iblk V c 4 t) (iblk V c 5 t) (iblk V c 6 t) (iblk V c 7 t) (iblk V c 8 t) (iblk V c 9 t) (iblk V c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, H11, HS0, HS1⟩
      isplitl [HS0 HS1 HR Hg]
      · isplitl [HS0 HS1 HR]
        · iexists _; iexists _; isplitr
          · ipureintro; exact kept_01 V c t hb ho _ xs1 hk
          isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have ho0 : t.val % 2 = 0 := by omega
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt_9 t], after_9]
      rw [show (dat V c).leavesExact 10 t = owns (c : Thread nD τ) (ms_10 t) fullShare ((dat V c).after 10 t) from by
        unfold Dat.leavesExact; rw [liveAt_10 t], after_10]
      rw [Dat.leavesExact_idle (dat V c) 11 t (idleAt_11 t ho) (noFlush_11 t ho)]
      iintro ⟨⟨⟨%xs0, %xs1, %hk, HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run1_00 c (grid1.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) _ (Memref.isWhole_whole _) ((hcondB t).mpr hb) ((hcondL t).mpr ho0) ((hcondZ t).mpr ho0) (fun h => ho ((hcondP t).mp h)) (fun h => ho ((hcondE t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, HS0, HS1⟩
      isplitl [HS0 HS1 HR Hg]
      · isplitl [HS0 HS1 HR]
        · iexists _; iexists _; isplitr
          · ipureintro; exact kept_00 V c t hb xs0 xs1 hk
          isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · by_cases ho : t.val % 2 = 1
    · have ho0 : ¬t.val % 2 = 0 := by omega
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt_9 t], after_9]
      rw [show (dat V c).leavesExact 10 t = owns (c : Thread nD τ) (ms_10 t) fullShare ((dat V c).after 10 t) from by
        unfold Dat.leavesExact; rw [liveAt_10 t], after_10]
      rw [show (dat V c).leavesExact 11 t = owns (c : Thread nD τ) (ms_11 t) fullShare ((dat V c).after 11 t) from by
        unfold Dat.leavesExact; rw [liveC_11 t ho], after_11]
      iintro ⟨⟨⟨%xs0, %xs1, %hk, HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      obtain rfl := kept_acc V c t ho xs0 xs1 hk
      rw [outAt, ← kept_slab V c t hb _ xs1 hk]
      iapply (run1_11 c (grid1.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) _ (Memref.isWhole_whole _) (fun h => hb ((hcondB t).mp h)) (fun h => ho0 ((hcondL t).mp h)) (fun h => ho0 ((hcondZ t).mp h)) ((hcondP t).mpr ho) ((hcondE t).mpr ho) (iblk V c 0 t) (iblk V c 1 t) (iblk V c 2 t) (iblk V c 3 t) (iblk V c 4 t) (iblk V c 5 t) (iblk V c 6 t) (iblk V c 7 t) (iblk V c 8 t) (iblk V c 9 t) (iblk V c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, H11, HS0, HS1⟩
      isplitl [HS0 HS1 HR Hg]
      · isplitl [HS0 HS1 HR]
        · iexists _; iexists _; isplitr
          · ipureintro; exact kept_11 V c t ho hb _ xs1 hk
          isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have ho0 : t.val % 2 = 0 := by omega
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt_9 t], after_9]
      rw [show (dat V c).leavesExact 10 t = owns (c : Thread nD τ) (ms_10 t) fullShare ((dat V c).after 10 t) from by
        unfold Dat.leavesExact; rw [liveAt_10 t], after_10]
      rw [Dat.leavesExact_idle (dat V c) 11 t (idleAt_11 t ho) (noFlush_11 t ho)]
      iintro ⟨⟨⟨%xs0, %xs1, %hk, HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run1_10 c (grid1.coords t) _ (hs_0 t) _ (hs_1 t) _ (hs_2 t) _ (hs_3 t) _ (hs_4 t) _ (hs_5 t) _ (hs_6 t) _ (hs_7 t) _ (hs_8 t) _ (hs_9 t) _ (hs_10 t) _ (hs_11 t) _ (Memref.isWhole_whole _) _ (Memref.isWhole_whole _) (fun h => hb ((hcondB t).mp h)) ((hcondL t).mpr ho0) ((hcondZ t).mpr ho0) (fun h => ho ((hcondP t).mp h)) (fun h => ho ((hcondE t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexists _; iexact HS0
      isplitl [HS1]; · iexact HS1
      iintro ⟨H0, H1, H2, H3, H4, H5, H6, H7, H8, H9, H10, H11, HS0, HS1⟩
      isplitl [HS0 HS1 HR Hg]
      · isplitl [HS0 HS1 HR]
        · iexists _; iexists _; isplitr
          · ipureintro; exact kept_10 V c t xs0 xs1 hb hk
          isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The body table's row at point `t` is the body at that point's buffers. -/
theorem defs₀_row (t : Fin cfg1.N) : defs₀ (F := F) .tc cfg1.body (cfg1.bodyArgs t (cfg1.slots t)) = bodyAt1 t := by
  unfold defs₀; rw [Defs.onTc_tc]

/-- The pipeline's obligation about the body, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region gives the invariant before the first point. -/
theorem hin (c : Dev nD) : Pipeline.ΦA spec1 c ⊢ (dat V c).Φ 0 := by
  rw [show (dat V c).Φ 0 = PhiS V c 0 from rfl, PhiA_eq]; unfold PhiS
  iintro ⟨⟨⟨%xs0, HS0⟩, ⟨%xs1, HS1⟩, HR⟩, Hg⟩
  isplitl [HS0 HS1 HR]
  · iexists xs0; iexists xs1; isplitr
    · ipureintro; exact ⟨fun t h _ => absurd h (by omega), fun t _ h => absurd h (by omega)⟩
    isplitl [HS0]; · iexact HS0
    isplitl [HS1]; · iexact HS1
    iexact HR
  iexact Hg
/-- After the last point the invariant gives back what the launch handed over. -/
theorem hout (c : Dev nD) : (dat V c).Φ (Fin.last cfg1.N) ⊢ Pipeline.ΦA spec1 c := by
  rw [show (dat V c).Φ (Fin.last cfg1.N) = PhiS V c cfg1.N from rfl, PhiA_eq]; unfold PhiS
  iintro ⟨⟨%xs0, %xs1, -, HS0, HS1, HR⟩, Hg⟩
  isplitl [HS0 HS1 HR]
  · isplitl [HS0]
    · iexists _; iexact HS0
    isplitl [HS1]
    · iexists _; iexact HS1
    iexact HR
  iexact Hg

end Cert.KernelIdeal.Main

end
-- ==== Proof.KernelIdeal.Launch.lean ====
/- The whole program from launch to return: the two calls between their host reshapes, and what every buffer holds at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp
public import proofs.«01_k».proof.Proof.Shared
public import proofs.«01_k».proof.Proof.KernelIdeal.PrepBody
public import proofs.«01_k».proof.Proof.KernelIdeal.MainBody
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of core `c` at launch. -/
abbrev W0 : Dev nD → Valuation τ sig (Elt F) := fun c b => (s₀ m ρ).mem ((c : Dev nD), b)
/-- They after the reshapes before call 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev V1 : (c : Dev nD) → (b : Ref sig .tc) → Buf (Elt F) ((c : Thread nD τ).loc b) := fun c b => W1 m ρ c b

/-- Core `c`'s buffers after call 0: its arrays as the pipeline leaves them, the others as before. -/
def W2 (c : Dev nD) : Valuation τ sig (Elt F) :=
  Pipeline.withArrays spec0 c (W1 m ρ c) fun w => (Prep.dat (V1 m ρ) c).arrAt w cfg0.N
theorem W2_arr (c : Dev nD) (w : Fin cfg0.W) :
    W2 m ρ c (Proc.devRef .tc (Pipeline.arrRef spec0 w)) = (Prep.dat (V1 m ρ) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output of call 0 keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Prep.dat (V1 m ρ) c).arrAt_in w (h w rfl) _).trans (Prep.A_eq (V1 m ρ) c w))
  · exact W2_off m ρ c r fun w e => hw ⟨w, e⟩
abbrev V2 : (c : Dev nD) → (b : Ref sig .tc) → Buf (Elt F) ((c : Thread nD τ).loc b) := fun c b => W2 m ρ c b
theorem left0 (c : Dev nD) (w : Fin cfg0.W) : (Prep.dat (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_off m ρ c b fun w e => hb (Finset.mem_image.mpr ⟨w, Finset.mem_univ _, e⟩)

/-- Core `c`'s buffers after the reshapes before call 1. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
abbrev V3 : (c : Dev nD) → (b : Ref sig .tc) → Buf (Elt F) ((c : Thread nD τ).loc b) := fun c b => W3 m ρ c b

/-- Core `c`'s buffers after call 1: its arrays as the pipeline leaves them, the others as before. -/
def W4 (c : Dev nD) : Valuation τ sig (Elt F) :=
  Pipeline.withArrays spec1 c (W3 m ρ c) fun w => (Main.dat (V3 m ρ) c).arrAt w cfg1.N
theorem W4_arr (c : Dev nD) (w : Fin cfg1.W) :
    W4 m ρ c (Proc.devRef .tc (Pipeline.arrRef spec1 w)) = (Main.dat (V3 m ρ) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output of call 1 keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Main.dat (V3 m ρ) c).arrAt_in w (h w rfl) _).trans (Main.A_eq (V3 m ρ) c w))
  · exact W4_off m ρ c r fun w e => hw ⟨w, e⟩
abbrev V4 : (c : Dev nD) → (b : Ref sig .tc) → Buf (Elt F) ((c : Thread nD τ).loc b) := fun c b => W4 m ρ c b
theorem left1 (c : Dev nD) (w : Fin cfg1.W) : (Main.dat (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_off m ρ c b fun w e => hb (Finset.mem_image.mpr ⟨w, Finset.mem_univ _, e⟩)

/-- The program's arguments. -/
abbrev argList : List (Ref sig .tc) := [main_arg0, main_arg1, main_arg2, main_arg3, main_arg4, main_arg5, main_arg6, main_arg7, main_arg8, main_arg9, main_arg10, main_arg11, main_arg12, main_arg13, main_arg14, main_arg15]
theorem args_in0 : ∀ a ∈ argList, ∀ w : Fin cfg0.W, Pipeline.arrRef spec0 w = a → (cfg0.win w).isOut = false :=
  ListAll.forall_mem_of_all_decide (by decide +kernel)
theorem args_off0 : ∀ a ∈ argList, a ∉ hostOps0_W := ListAll.forall_mem_of_all_decide (by decide +kernel)
theorem args_in1 : ∀ a ∈ argList, ∀ w : Fin cfg1.W, Pipeline.arrRef spec1 w = a → (cfg1.win w).isOut = false :=
  ListAll.forall_mem_of_all_decide (by decide +kernel)
theorem args_off1 : ∀ a ∈ argList, a ∉ hostOps1_W := ListAll.forall_mem_of_all_decide (by decide +kernel)
/-- An argument holds what it held at launch when call 0 is entered. -/
theorem W1_arg (c : Dev nD) (a : Ref sig .tc) (h : a ∈ argList) : W1 m ρ c (Proc.devRef .tc a) = m ((c : Thread nD τ).loc a) :=
  (W1_of m ρ c a (args_off0 a h)).trans rfl
/-- An argument holds what it held at launch when call 1 is entered. -/
theorem W3_arg (c : Dev nD) (a : Ref sig .tc) (h : a ∈ argList) : W3 m ρ c (Proc.devRef .tc a) = m ((c : Thread nD τ).loc a) :=
  (W3_of m ρ c a (args_off1 a h)).trans ((W2_of m ρ c a (args_in0 a h)).trans (W1_arg m ρ c a h))
/-- An argument ends at what it held at launch. -/
theorem W4_arg (c : Dev nD) (a : Ref sig .tc) (h : a ∈ argList) : W4 m ρ c (Proc.devRef .tc a) = m ((c : Thread nD τ).loc a) :=
  (W4_of m ρ c a (args_in1 a h)).trans (W3_arg m ρ c a h)

/-! ## The segments -/

abbrev adm : (p : Fin 2) → (pcfgs (F := F) p).Adm := fun p => (cfgs p).toPCfg_adm
/-- Both calls' data, each at the contents it is entered with. -/
def pdats : (p : Fin 2) → (c : Dev nD) → Dat τ (Elt F) Unit ℕ (UR sig nD τ) ℕ (Pipeline.pin (pcfgs (F := F)) adm p) c
  | ⟨0, _⟩ => fun c => Prep.dat (V1 m ρ) c
  | ⟨1, _⟩ => fun c => Main.dat (V3 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_kept (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every kept buffer at `W4`. -/
abbrev Tend (c : Dev nD) : sProp 𝕄 := iprop(StableHlo.held (c : Thread nD τ) (Pipeline.ucRefs τ sig) (W4 m ρ c) ∗ ∃ r, prngReg c r)

set_option backward.isDefEq.respectTransparency.types false in
/-- Call 0 as a segment of the program: entered from the buffers at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Prep.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Prep.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Prep.hin (V1 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Prep.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program: entered from the buffers at `W3`, left with them at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Main.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Main.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Main.hin (V3 m ρ) c)
    unfold Pipeline.ΦA
    iintro ⟨Hp, -, Hr⟩
    isplitl [Hr]; · iexact Hr
    iexact Hp
  hout c := by
    rw [Pipeline.ownSems0_none]
    refine Idealize.SL.BI.BIBase.Entails.trans (Main.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hostSeg hostOps0 hostOps0_sub hostOps0_fresh (W0 m ρ)),
    .region (reg0 m ρ),
    .host (hostSeg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every execution of the program ends, with the result as call 1 leaves it, every argument as launched and every
    semaphore counter at zero. -/
theorem run : θ_run defs (onTc (τ := τ) (main (F := F))) ⟨m, fun _ => 0, ρ⟩ (fun r => (∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_kept main_v10 (by decide)),
       (h c _ (mem_kept main_arg0 (by decide))).trans (W4_arg m ρ c main_arg0 (by decide)),
       (h c _ (mem_kept main_arg1 (by decide))).trans (W4_arg m ρ c main_arg1 (by decide)),
       (h c _ (mem_kept main_arg2 (by decide))).trans (W4_arg m ρ c main_arg2 (by decide)),
       (h c _ (mem_kept main_arg3 (by decide))).trans (W4_arg m ρ c main_arg3 (by decide)),
       (h c _ (mem_kept main_arg4 (by decide))).trans (W4_arg m ρ c main_arg4 (by decide)),
       (h c _ (mem_kept main_arg5 (by decide))).trans (W4_arg m ρ c main_arg5 (by decide)),
       (h c _ (mem_kept main_arg6 (by decide))).trans (W4_arg m ρ c main_arg6 (by decide)),
       (h c _ (mem_kept main_arg7 (by decide))).trans (W4_arg m ρ c main_arg7 (by decide)),
       (h c _ (mem_kept main_arg8 (by decide))).trans (W4_arg m ρ c main_arg8 (by decide)),
       (h c _ (mem_kept main_arg9 (by decide))).trans (W4_arg m ρ c main_arg9 (by decide)),
       (h c _ (mem_kept main_arg10 (by decide))).trans (W4_arg m ρ c main_arg10 (by decide)),
       (h c _ (mem_kept main_arg11 (by decide))).trans (W4_arg m ρ c main_arg11 (by decide)),
       (h c _ (mem_kept main_arg12 (by decide))).trans (W4_arg m ρ c main_arg12 (by decide)),
       (h c _ (mem_kept main_arg13 (by decide))).trans (W4_arg m ρ c main_arg13 (by decide)),
       (h c _ (mem_kept main_arg14 (by decide))).trans (W4_arg m ρ c main_arg14 (by decide)),
       (h c _ (mem_kept main_arg15 (by decide))).trans (W4_arg m ρ c main_arg15 (by decide))⟩), funext fun g => hz g (.inr (no_unscoped g.2))⟩)

end Cert.KernelIdeal.Run

end
-- ==== Proof.Spec.lean ====
/- The computation both programs perform, written over plain functions of extended reals, with the two facts about
   it that need algebra: the fused projection may be associated differently when everything in it is finite. -/
module

public import Idealize.ShloMosaic.PureOps.Ideal
public import Idealize.ShloMosaic.PureOps.Ideal.Laws
public import Idealize.ShloMosaic.Lib.KernelVsHost

@[expose] public section

noncomputable section

namespace Cert.Spec

open Idealize.ShloMosaic

/-- Rows against rows of a second array, plus a bias per column. -/
def lin {m n l : ℕ} (x : Fin m → Fin l → EReal) (w : Fin n → Fin l → EReal) (b : Fin n → EReal) (i : Fin m) (j : Fin n) : EReal :=
  (∑ k, x i k * w j k) + b j

/-- The number one, as its float word denotes it. -/
abbrev one32 : EReal := Ideal.ofBits .f32 0x3F800000#32
/-- The number one half, as its float word denotes it. -/
abbrev half32 : EReal := Ideal.ofBits .f32 0x3F000000#32

/-- The logistic function. -/
def sig (x : EReal) : EReal := Ideal.div one32 (one32 + Ideal.exp (-x))

/-- The masked projection: the projected window against its own transform, seen in the basis `P`, gated by the mask. -/
def gated {n : ℕ} (A P mask : Fin n → Fin n → EReal) (i j : Fin n) : EReal :=
  (∑ k, (∑ e, P e i * A e k) * P k j) * sig (mask i j)

/-- The fused projection as the reference associates it: into the basis, through the gate, back out. -/
def mixRef {T n : ℕ} (X : Fin T → Fin n → EReal) (P M : Fin n → Fin n → EReal) (t : Fin T) (e : Fin n) : EReal :=
  ∑ d, (∑ e', (∑ i, X t i * P i e') * M d e') * P e d

/-- The fused projection as the kernel associates it: one matrix made from the gate and the basis. -/
def mixKer {T n : ℕ} (X : Fin T → Fin n → EReal) (P M : Fin n → Fin n → EReal) (t : Fin T) (j : Fin n) : EReal :=
  ∑ i, X t i * (∑ k, (∑ e, P i e * M k e) * P j k)

/-- An image read one row above its first row and one below its last: zero outside. -/
def padAt (x : Fin 1024 → Fin 1024 → EReal) (s : ℕ) (c : Fin 1024) : EReal :=
  if h : 1 ≤ s ∧ s - 1 < 1024 then x ⟨s - 1, h.2⟩ c else 0

/-- The channel `i` of the group of 64 channels that `c` lies in. -/
def chan (c : Fin 1024) (i : Fin 64) : Fin 1024 := ⟨c.val / 64 * 64 + i.val, by omega⟩

/-- One tap of the grouped convolution. -/
def tap (w : Fin 1024 → Fin 64 → Fin 3 → EReal) (x : Fin 1024 → Fin 1024 → EReal) (k : Fin 3) (t c : Fin 1024) : EReal :=
  ∑ i : Fin 64, w c i k * padAt x (k.val + t.val) (chan c i)

/-- The grouped convolution along the rows, of width three, with a bias. -/
def conv (w : Fin 1024 → Fin 64 → Fin 3 → EReal) (b : Fin 1024 → EReal) (x : Fin 1024 → Fin 1024 → EReal) (t c : Fin 1024) : EReal :=
  tap w x 0 t c + tap w x 1 t c + tap w x 2 t c + b c

/-- The inverse of the root of two. -/
abbrev rho : EReal := (((Real.sqrt 2)⁻¹ : ℝ) : EReal)

/-- The exact gelu. -/
def gelu (h : EReal) : EReal := (half32 * h) * (one32 + Ideal.erf (h * rho))

/-- The mean of a row. -/
def mean (x : Fin 1024 → EReal) : EReal := Ideal.div (∑ c, x c) (Ideal.ofBits .f32 0x44800000#32)

/-- A row less its mean. -/
def centred (x : Fin 1024 → EReal) (c : Fin 1024) : EReal := x c - mean x

/-- The normalised row, scaled and shifted. -/
def norm (g b : Fin 1024 → EReal) (x : Fin 1024 → EReal) (c : Fin 1024) : EReal :=
  centred x c * Ideal.rsqrt (mean (fun d => centred x d * centred x d) + Ideal.ofBits .f32 0x3727C5AC#32) * g c + b c

/-- Everything after the fused projection of one image. -/
def tail (w1 : Fin 1024 → Fin 64 → Fin 3 → EReal) (b1 : Fin 1024 → EReal) (w2 : Fin 1024 → Fin 64 → Fin 3 → EReal)
    (b2 g b : Fin 1024 → EReal) (wm : Fin 100 → Fin 1024 → EReal) (bm : Fin 100 → EReal)
    (f : Fin 1024 → Fin 1024 → EReal) (m : Fin 100) (t : Fin 1024) : EReal :=
  (∑ c, norm g b (conv w2 b2 (fun t c => gelu (conv w1 b1 f t c)) t) c * wm m c) + bm m

/-! ## Finiteness -/

/-- A number that is not infinite. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fin'.sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩

theorem one32_eq : one32 = 1 := by
  show Ideal.ofBits .f32 0x3F800000#32 = 1
  simp [Ideal.ofBits, Ideal.ieee]
  rw [← EReal.coe_one]
  norm_cast
  norm_num

/-- The logistic function is finite everywhere. -/
theorem sig_fin (x : EReal) : Fin' (sig x) := by
  unfold sig
  rw [one32_eq]
  induction x with
  | bot =>
    refine ⟨0, ?_⟩
    have : Ideal.exp (-⊥) = ⊤ := by rw [EReal.neg_bot]; rfl
    rw [this]
    have h : (1 : EReal) + ⊤ = ⊤ := by rfl
    rw [h]; simp [Ideal.div]
  | top =>
    refine ⟨1, ?_⟩
    have : Ideal.exp (-⊤) = 0 := by rw [EReal.neg_top]; rfl
    rw [this]; simp [Ideal.div]
  | coe r =>
    have h1 : Ideal.exp (-(r : EReal)) = ((Real.exp (-r) : ℝ) : EReal) := by rw [← EReal.coe_neg]; rfl
    have hp : (0 : ℝ) < 1 + Real.exp (-r) := by positivity
    refine ⟨(1 + Real.exp (-r))⁻¹, ?_⟩
    rw [h1, ← EReal.coe_one, ← EReal.coe_add]
    unfold Ideal.div
    rw [if_neg (by exact_mod_cast hp.ne')]
    rw [← EReal.coe_inv, ← EReal.coe_mul, one_mul]

/-- The two associations of the fused projection agree when everything in it is finite. -/
theorem mix_eq {T n : ℕ} (X : Fin T → Fin n → EReal) (P M : Fin n → Fin n → EReal)
    (hX : ∀ t i, Fin' (X t i)) (hP : ∀ i j, Fin' (P i j)) (hM : ∀ i j, Fin' (M i j)) : mixRef X P M = mixKer X P M := by
  choose X' hX using hX
  choose P' hP using hP
  choose M' hM using hM
  funext t e
  unfold mixRef mixKer
  simp only [hX, hP, hM, ← EReal.coe_mul, ← coe_sum]
  congr 1
  have h := congrFun (congrFun (show (Matrix.of X' * Matrix.of P' * (Matrix.of M').transpose) * (Matrix.of P').transpose
      = Matrix.of X' * (Matrix.of P' * (Matrix.of M').transpose * (Matrix.of P').transpose) by
    simp only [Matrix.mul_assoc]) t) e
  simpa only [Matrix.mul_apply, Matrix.of_apply, Matrix.transpose_apply] using h

/-- The gate is finite when the window's projection and the basis are. -/
theorem gated_fin {n : ℕ} (A P mask : Fin n → Fin n → EReal) (hA : ∀ i j, Fin' (A i j)) (hP : ∀ i j, Fin' (P i j)) (i j : Fin n) :
    Fin' (gated A P mask i j) :=
  (Fin'.sum _ _ fun k => (Fin'.sum _ _ fun e => (hP e i).mul (hA e k)).mul (hP k j)).mul (sig_fin _)

theorem lin_fin {m n l : ℕ} (x : Fin m → Fin l → EReal) (w : Fin n → Fin l → EReal) (b : Fin n → EReal)
    (hx : ∀ i k, Fin' (x i k)) (hw : ∀ j k, Fin' (w j k)) (hb : ∀ j, Fin' (b j)) (i : Fin m) (j : Fin n) : Fin' (lin x w b i j) :=
  (Fin'.sum _ _ fun k => (hx i k).mul (hw j k)).add (hb j)

/-! ## Sums taken in pieces, and the block-diagonal table of a convolution -/

/-- A sum over `m * n` terms is `m` sums of `n`. -/
theorem sum_split (m n : ℕ) (f : Fin (m * n) → EReal) :
    ∑ i, f i = ∑ a : Fin m, ∑ b : Fin n, f ⟨a.val * n + b.val, by
      calc a.val * n + b.val < a.val * n + n := by omega
        _ = (a.val + 1) * n := by ring
        _ ≤ m * n := Nat.mul_le_mul_right _ a.isLt⟩ := by
  rw [← Fintype.sum_prod_type' (f := fun (a : Fin m) (b : Fin n) => f ⟨a.val * n + b.val, _⟩)]
  refine (Fintype.sum_equiv finProdFinEquiv _ _ ?_).symm
  rintro ⟨a, b⟩
  congr 1
  apply Fin.ext
  simp [finProdFinEquiv]
  ring

/-- The table of one group of 256 channels: for each tap, 64-channel blocks on the diagonal and zeros elsewhere. -/
def tab (w : Fin 1024 → Fin 64 → Fin 3 → EReal) (q : Fin 4) (r : Fin 768) (i : Fin 256) : EReal :=
  if r.val % 256 / 64 = i.val / 64 then w ⟨q.val * 256 + r.val % 256, by omega⟩ ⟨i.val % 64, by omega⟩ ⟨r.val / 256, by omega⟩ else 0

/-- A sum against a row of the table only sees the row's own block. -/
theorem sum_tab (w : Fin 1024 → Fin 64 → Fin 3 → EReal) (q : Fin 4) (k : Fin 3) (c : Fin 256) (f : Fin 1024 → EReal) :
    ∑ i : Fin 256, f ⟨q.val * 256 + i.val, by omega⟩ * tab w q ⟨k.val * 256 + c.val, by omega⟩ i
      = ∑ i : Fin 64, w ⟨q.val * 256 + c.val, by omega⟩ i k * f (chan ⟨q.val * 256 + c.val, by omega⟩ i) := by
  rw [sum_split 4 64 (fun i => f ⟨q.val * 256 + i.val, by omega⟩ * tab w q ⟨k.val * 256 + c.val, by omega⟩ i)]
  rw [Finset.sum_eq_single (⟨c.val / 64, by omega⟩ : Fin 4)]
  · refine Finset.sum_congr rfl fun i _ => ?_
    unfold tab chan
    rw [if_pos (by show (k.val * 256 + c.val) % 256 / 64 = (c.val / 64 * 64 + i.val) / 64; omega), mul_comm]
    have e1 : (⟨q.val * 256 + (k.val * 256 + c.val) % 256, by omega⟩ : Fin 1024) = ⟨q.val * 256 + c.val, by omega⟩ := Fin.ext (by show q.val * 256 + (k.val * 256 + c.val) % 256 = q.val * 256 + c.val; omega)
    have e2 : (⟨(c.val / 64 * 64 + i.val) % 64, by omega⟩ : Fin 64) = i := Fin.ext (by show (c.val / 64 * 64 + i.val) % 64 = i.val; omega)
    have e3 : (⟨(k.val * 256 + c.val) / 256, by omega⟩ : Fin 3) = k := Fin.ext (by show (k.val * 256 + c.val) / 256 = k.val; omega)
    have e4 : (⟨q.val * 256 + (c.val / 64 * 64 + i.val), by omega⟩ : Fin 1024) = ⟨(q.val * 256 + c.val) / 64 * 64 + i.val, by omega⟩ := Fin.ext (by show q.val * 256 + (c.val / 64 * 64 + i.val) = (q.val * 256 + c.val) / 64 * 64 + i.val; omega)
    exact congrArg₂ (· * ·) (by rw [e1, e2, e3]) (by rw [e4])
  · intro a _ ha
    refine Finset.sum_eq_zero fun i _ => ?_
    unfold tab
    rw [if_neg, mul_zero]
    show ¬ (k.val * 256 + c.val) % 256 / 64 = (a.val * 64 + i.val) / 64
    intro h
    exact ha (Fin.ext (by show a.val = c.val / 64; omega))
  · intro h; exact absurd (Finset.mem_univ _) h

end Cert.Spec

end
-- ==== Proof.RefVal.lean ====
/- What the reference's operations compute, entry by entry, as the functions of `Spec`. -/
module

public import proofs.«01_k».proof.Proof.Gen.ReferenceIdeal.Run
public import proofs.«01_k».proof.Proof.Spec
public import Idealize.ShloMosaic.Lib.Pointwise

@[expose] public section

noncomputable section

namespace Cert.RefVal

open Cert.ReferenceIdeal Cert.ReferenceIdeal.Gen Idealize.ShloMosaic

/-- A float array of a shape. -/
abbrev V (s : Shape) := (⟨s, .f32⟩ : BufTy).Contents (Elt Ideal)

/-- The images with a row of zeros above and below. -/
def padR (y : V S4x1024x1024) : V S4x1026x1024 :=
  pad S4x1026x1024 ![0, 1, 0] ![0, 1, 0] ![0, 0, 0] y (sitofp (F := Ideal) .f32 (constantI S_ 32 0#32)) pads_S4x1024x1024_S4x1026x1024_000_110_000 h_S_

theorem padR_apply (y : V S4x1024x1024) (b : Fin 4) (s : Fin 1026) (c : Fin 1024) :
    padR y (ix3 b s c) = Spec.padAt (fun t c => y (ix3 b t c)) s.val c := by
  unfold padR Spec.padAt
  pointwise
  rw [show (FloatOps.sitofp FTy.f32 (0#32) : Ideal .f32) = 0 by simp [FloatOps.sitofp]]

/-- One tap of the grouped convolution. -/
def tapR (yp : V S4x1026x1024) (w : V S1024x64x3) (oy : Fin 3 → ℕ) (hy : S4x1026x1024.Slices oy S4x1024x1024) (ow : Fin 4 → ℕ)
    (hw : S16x64x64x3.Slices ow S16x64x64x1) : V S4x16x1024x64 :=
  transpose S4x16x1024x64 [2, 0, 3, 1] (Host.dotGeneral (F := Ideal) (φ₁ := .f32) (φ₂ := .f32) dot_S16x64x64_S4x1024x16x64_S16x64x4x1024_2_3_1_01_0_2 none
    (shapeCast S16x64x64 (extractStridedSlice S16x64x64x1 ow (shapeCast S16x64x64x3 w shapeCasts_S1024x64x3_S16x64x64x3) hw) shapeCasts_S16x64x64x1_S16x64x64)
    (shapeCast S4x1024x16x64 (extractStridedSlice S4x1024x1024 oy yp hy) shapeCasts_S4x1024x1024_S4x1024x16x64)) transposes_S16x64x4x1024_S4x16x1024x64_2_0_3_1

/-- The first tap at an index. -/
theorem tapR0_apply (yp : V S4x1026x1024) (w : V S1024x64x3) (b : Fin 4) (g : Fin 16) (t : Fin 1024) (o : Fin 64) :
    tapR yp w ![0,0,0] slices_S4x1026x1024_S4x1024x1024_0_0_0 ![0,0,0,0] slices_S16x64x64x3_S16x64x64x1_0_0_0_0 (ix4 b g t o) =
      ∑ i : Fin 64, w (ix3 ⟨g.val * 64 + o.val, by omega⟩ i 0) * yp (ix3 b ⟨0 + t.val, by omega⟩ ⟨g.val * 64 + i.val, by omega⟩) := by
  unfold tapR
  pointwise

theorem tapR1_apply (yp : V S4x1026x1024) (w : V S1024x64x3) (b : Fin 4) (g : Fin 16) (t : Fin 1024) (o : Fin 64) :
    tapR yp w ![0,1,0] slices_S4x1026x1024_S4x1024x1024_0_1_0 ![0,0,0,1] slices_S16x64x64x3_S16x64x64x1_0_0_0_1 (ix4 b g t o) =
      ∑ i : Fin 64, w (ix3 ⟨g.val * 64 + o.val, by omega⟩ i 1) * yp (ix3 b ⟨1 + t.val, by omega⟩ ⟨g.val * 64 + i.val, by omega⟩) := by
  unfold tapR
  pointwise

theorem tapR2_apply (yp : V S4x1026x1024) (w : V S1024x64x3) (b : Fin 4) (g : Fin 16) (t : Fin 1024) (o : Fin 64) :
    tapR yp w ![0,2,0] slices_S4x1026x1024_S4x1024x1024_0_2_0 ![0,0,0,2] slices_S16x64x64x3_S16x64x64x1_0_0_0_2 (ix4 b g t o) =
      ∑ i : Fin 64, w (ix3 ⟨g.val * 64 + o.val, by omega⟩ i 2) * yp (ix3 b ⟨2 + t.val, by omega⟩ ⟨g.val * 64 + i.val, by omega⟩) := by
  unfold tapR
  pointwise

/-- The grouped convolution with its bias. -/
def convR (y : V S4x1024x1024) (w : V S1024x64x3) (bias : V S1024) : V S4x1024x1024 :=
  addf (shapeCast S4x1024x1024 (transpose S4x1024x16x64 [0, 2, 1, 3] (addf (addf (addf
      (broadcastInDim S4x16x1024x64 ![] bcast_S_S4x16x1024x64 (constant (F := Ideal) S_ .f32 0x00000000#32))
      (tapR (padR y) w ![0,0,0] slices_S4x1026x1024_S4x1024x1024_0_0_0 ![0,0,0,0] slices_S16x64x64x3_S16x64x64x1_0_0_0_0))
      (tapR (padR y) w ![0,1,0] slices_S4x1026x1024_S4x1024x1024_0_1_0 ![0,0,0,1] slices_S16x64x64x3_S16x64x64x1_0_0_0_1))
      (tapR (padR y) w ![0,2,0] slices_S4x1026x1024_S4x1024x1024_0_2_0 ![0,0,0,2] slices_S16x64x64x3_S16x64x64x1_0_0_0_2))
      transposes_S4x16x1024x64_S4x1024x16x64_0_2_1_3) shapeCasts_S4x1024x16x64_S4x1024x1024)
    (broadcastInDim S4x1024x1024 ![0, 1, 2] bcast_S1x1x1024_S4x1024x1024_0_1_2 (broadcastInDim S1x1x1024 ![2] bcast_S1024_S1x1x1024_2 bias))

theorem convR_apply (y : V S4x1024x1024) (w : V S1024x64x3) (bias : V S1024) (b : Fin 4) (t c : Fin 1024) :
    convR y w bias (ix3 b t c) = Spec.conv (fun c i k => w (ix3 c i k)) (fun c => bias (ix1 c)) (fun t c => y (ix3 b t c)) t c := by
  unfold convR
  pointwise
  have hc : (⟨c.val / 64 * 64 + c.val % 64, by omega⟩ : Fin 1024) = c := Fin.ext (by show c.val / 64 * 64 + c.val % 64 = c.val; omega)
  rw [tapR0_apply, tapR1_apply, tapR2_apply]
  simp only [padR_apply, hc]
  rfl

/-- The exact gelu, entry by entry. -/
def geluR (y : V S4x1024x1024) : V S4x1024x1024 :=
  mulf (mulf (broadcastInDim S4x1024x1024 ![] bcast_S_S4x1024x1024 (constant (F := Ideal) S_ .f32 0x3F000000#32)) y)
    (addf (broadcastInDim S4x1024x1024 ![] bcast_S_S4x1024x1024 (constant (F := Ideal) S_ .f32 0x3F800000#32))
      (Host.erf (Host.divf y (broadcastInDim S4x1024x1024 ![] bcast_S_S4x1024x1024 (Host.sqrt (constant (F := Ideal) S_ .f32 0x40000000#32))))))

theorem geluR_apply (y : V S4x1024x1024) (b : Fin 4) (t c : Fin 1024) : geluR y (ix3 b t c) = Spec.gelu (y (ix3 b t c)) := by
  unfold geluR Spec.gelu
  pointwise
  rw [show Ideal.div (y (ix3 b t c)) (Ideal.sqrt (Ideal.ofBits FTy.f32 1073741824#32)) = y (ix3 b t c) * Spec.rho by
    rw [show Ideal.ofBits FTy.f32 1073741824#32 = ((2 : ℝ) : EReal) by
      simp [Ideal.ofBits, Ideal.ieee]; norm_cast; norm_num]
    rw [Ideal.sqrt_coe, if_neg (by norm_num)]
    unfold Ideal.div
    rw [if_neg (by norm_cast; positivity), ← EReal.coe_inv]]

/-- The mean of each row. -/
def meanR (y : V S4x1024x1024) : V S4x1024x1 :=
  Host.divf (broadcastInDim S4x1024x1 ![0, 1] bcast_S4x1024_S4x1024x1_0_1
      (Host.reduceAdd y (constant (F := Ideal) S_ .f32 0x00000000#32) reducesTo_S4x1024x1024_S4x1024_d2 h_S_))
    (broadcastInDim S4x1024x1 ![] bcast_S_S4x1024x1 (constant (F := Ideal) S_ .f32 0x44800000#32))

theorem meanR_apply (y : V S4x1024x1024) (b : Fin 4) (t : Fin 1024) (z : Fin 1) : meanR y (ix3 b t z) = Spec.mean (fun c => y (ix3 b t c)) := by
  unfold meanR Spec.mean
  pointwise

/-- Each row less its mean. -/
def cenR (y : V S4x1024x1024) : V S4x1024x1024 := subf (F := Ideal) (φ := .f32) y (broadcastInDim S4x1024x1024 ![0, 1, 2] bcast_S4x1024x1_S4x1024x1024_0_1_2 (meanR y))

theorem cenR_apply (y : V S4x1024x1024) (b : Fin 4) (t c : Fin 1024) : cenR y (ix3 b t c) = Spec.centred (fun c => y (ix3 b t c)) c := by
  unfold cenR Spec.centred
  pointwise
  rw [meanR_apply]

/-- The layer norm. -/
def lnR (y : V S4x1024x1024) (g s : V S1024) : V S4x1024x1024 :=
  addf (mulf (mulf (cenR y) (broadcastInDim S4x1024x1024 ![0, 1, 2] bcast_S4x1024x1_S4x1024x1024_0_1_2
      (Host.rsqrt (addf (meanR (mulf (F := Ideal) (φ := .f32) (cenR y) (cenR y))) (broadcastInDim S4x1024x1 ![] bcast_S_S4x1024x1 (constant (F := Ideal) S_ .f32 0x3727C5AC#32))))))
      (broadcastInDim S4x1024x1024 ![0, 1, 2] bcast_S1x1x1024_S4x1024x1024_0_1_2 (broadcastInDim S1x1x1024 ![2] bcast_S1024_S1x1x1024_2 g)))
    (broadcastInDim S4x1024x1024 ![0, 1, 2] bcast_S1x1x1024_S4x1024x1024_0_1_2 (broadcastInDim S1x1x1024 ![2] bcast_S1024_S1x1x1024_2 s))

theorem lnR_apply (y : V S4x1024x1024) (g s : V S1024) (b : Fin 4) (t c : Fin 1024) :
    lnR y g s (ix3 b t c) = Spec.norm (fun c => g (ix1 c)) (fun c => s (ix1 c)) (fun c => y (ix3 b t c)) c := by
  unfold lnR Spec.norm
  pointwise
  rw [meanR_apply]
  simp only [cenR_apply, mulf_apply]
  rfl

/-- The mel projection, mel rows first. -/
def melR (y : V S4x1024x1024) (w : V S100x1024) (bias : V S100) : V S4x100x1024 :=
  transpose S4x100x1024 [0, 2, 1] (addf (Host.dotGeneral (F := Ideal) (φ₁ := .f32) (φ₂ := .f32) dot_S4x1024x1024_S100x1024_S4x1024x100_2_1_01_0_n_n none y w)
    (broadcastInDim S4x1024x100 ![0, 1, 2] bcast_S1x1x100_S4x1024x100_0_1_2 (broadcastInDim S1x1x100 ![2] bcast_S100_S1x1x100_2 bias)))
    transposes_S4x1024x100_S4x100x1024_0_2_1

theorem melR_apply (y : V S4x1024x1024) (w : V S100x1024) (bias : V S100) (b : Fin 4) (m : Fin 100) (t : Fin 1024) :
    melR y w bias (ix3 b m t) = (∑ c, y (ix3 b t c) * w (ix2 m c)) + bias (ix1 m) := by
  unfold melR
  pointwise

/-- The window projected. -/
def winR (W : V S1024x3072) (Wd : V S1024x3072) (bd : V S1024) : V S1024x1024 :=
  addf (Host.dotGeneral (F := Ideal) (φ₁ := .f32) (φ₂ := .f32) dot_S1024x3072_S3072x1024_S1024x1024_1_0_0_1_n_n none W (transpose S3072x1024 [1, 0] Wd transposes_S1024x3072_S3072x1024_1_0))
    (broadcastInDim S1024x1024 ![0, 1] bcast_S1x1024_S1024x1024_0_1 (broadcastInDim S1x1024 ![1] bcast_S1024_S1x1024_1 bd))

theorem winR_apply (W : V S1024x3072) (Wd : V S1024x3072) (bd : V S1024) (i j : Fin 1024) :
    winR W Wd bd (ix2 i j) = Spec.lin (fun i k => W (ix2 i k)) (fun j k => Wd (ix2 j k)) (fun j => bd (ix1 j)) i j := by
  unfold winR Spec.lin
  pointwise

/-- The gated projection. -/
def gateR (A P mask : V S1024x1024) : V S1024x1024 :=
  mulf (Host.dotGeneral (F := Ideal) (φ₁ := .f32) (φ₂ := .f32) dot_S1024x1024_S1024x1024_S1024x1024_1_0_0_1_n_n none
      (Host.dotGeneral (F := Ideal) (φ₁ := .f32) (φ₂ := .f32) dot_S1024x1024_S1024x1024_S1024x1024_1_0_0_1_n_n none
        (transpose S1024x1024 [1, 0] P transposes_S1024x1024_S1024x1024_1_0) A) P)
    (Host.divf (broadcastInDim S1024x1024 ![] bcast_S_S1024x1024 (constant (F := Ideal) S_ .f32 0x3F800000#32))
      (addf (broadcastInDim S1024x1024 ![] bcast_S_S1024x1024 (constant (F := Ideal) S_ .f32 0x3F800000#32)) (Host.exp (Host.negf mask))))

theorem gateR_apply (A P mask : V S1024x1024) (i j : Fin 1024) :
    gateR A P mask (ix2 i j) = Spec.gated (fun i j => A (ix2 i j)) (fun i j => P (ix2 i j)) (fun i j => mask (ix2 i j)) i j := by
  unfold gateR Spec.gated Spec.sig
  pointwise

/-- The projected rows. -/
def linR (x : V S4x1024x3072) (W : V S1024x3072) (bias : V S1024) : V S4x1024x1024 :=
  addf (Host.dotGeneral (F := Ideal) (φ₁ := .f32) (φ₂ := .f32) dot_S4x1024x3072_S1024x3072_S4x1024x1024_2_1_01_0_n_n none x W)
    (broadcastInDim S4x1024x1024 ![0, 1, 2] bcast_S1x1x1024_S4x1024x1024_0_1_2 (broadcastInDim S1x1x1024 ![2] bcast_S1024_S1x1x1024_2 bias))

theorem linR_apply (x : V S4x1024x3072) (W : V S1024x3072) (bias : V S1024) (b : Fin 4) (t j : Fin 1024) :
    linR x W bias (ix3 b t j) = Spec.lin (fun t k => x (ix3 b t k)) (fun j k => W (ix2 j k)) (fun j => bias (ix1 j)) t j := by
  unfold linR Spec.lin
  pointwise

/-- The fused projection. -/
def mixR (X : V S4x1024x1024) (P M : V S1024x1024) : V S4x1024x1024 :=
  Host.dotGeneral (F := Ideal) (φ₁ := .f32) (φ₂ := .f32) dot_S4x1024x1024_S1024x1024_S4x1024x1024_2_1_01_0_n_n none
    (Host.dotGeneral (F := Ideal) (φ₁ := .f32) (φ₂ := .f32) dot_S4x1024x1024_S1024x1024_S4x1024x1024_2_1_01_0_n_n none
      (Host.dotGeneral (F := Ideal) (φ₁ := .f32) (φ₂ := .f32) dot_S4x1024x1024_S1024x1024_S4x1024x1024_2_0_01_1_n_n none X P) M) P

theorem mixR_apply (X : V S4x1024x1024) (P M : V S1024x1024) (b : Fin 4) (t e : Fin 1024) :
    mixR X P M (ix3 b t e) = Spec.mixRef (fun t i => X (ix3 b t i)) (fun i j => P (ix2 i j)) (fun i j => M (ix2 i j)) t e := by
  unfold mixR Spec.mixRef
  pointwise

/-- The whole reference as one composition. -/
def refR (x0 : V S4x1024x3072) (x2 : V S1024x3072) (x3 : V S1024) (x4 x5 : V S1024x1024) (x6 : V S1024x3072) (x7 : V S1024) (x8 : V S1024x64x3)
    (x9 : V S1024) (x10 : V S1024x64x3) (x11 x12 x13 : V S1024) (x14 : V S100x1024) (x15 : V S100) : V S4x100x1024 :=
  melR (lnR (convR (geluR (convR (mixR (linR x0 x2 x3) x4 (gateR (winR x2 x6 x7) x4 x5)) x8 x9)) x10 x11) x12 x13) x14 x15

theorem refR_apply (x0 : V S4x1024x3072) (x2 : V S1024x3072) (x3 : V S1024) (x4 x5 : V S1024x1024) (x6 : V S1024x3072) (x7 : V S1024) (x8 : V S1024x64x3)
    (x9 : V S1024) (x10 : V S1024x64x3) (x11 x12 x13 : V S1024) (x14 : V S100x1024) (x15 : V S100) (b : Fin 4) (m : Fin 100) (t : Fin 1024) :
    refR x0 x2 x3 x4 x5 x6 x7 x8 x9 x10 x11 x12 x13 x14 x15 (ix3 b m t) =
      Spec.tail (fun c i k => x8 (ix3 c i k)) (fun c => x9 (ix1 c)) (fun c i k => x10 (ix3 c i k)) (fun c => x11 (ix1 c)) (fun c => x12 (ix1 c))
        (fun c => x13 (ix1 c)) (fun m c => x14 (ix2 m c)) (fun m => x15 (ix1 m))
        (Spec.mixRef (Spec.lin (fun t k => x0 (ix3 b t k)) (fun j k => x2 (ix2 j k)) (fun j => x3 (ix1 j))) (fun i j => x4 (ix2 i j))
          (Spec.gated (Spec.lin (fun i k => x2 (ix2 i k)) (fun j k => x6 (ix2 j k)) (fun j => x7 (ix1 j))) (fun i j => x4 (ix2 i j)) (fun i j => x5 (ix2 i j)))) m t := by
  unfold refR Spec.tail
  rw [melR_apply]
  simp only [lnR_apply, convR_apply, geluR_apply, mixR_apply, linR_apply, gateR_apply, winR_apply]

end Cert.RefVal

end
-- ==== Proof.RefEq.lean ====
/- The reference's result is the one composition `RefVal.refR` of its arguments. -/
module

public import proofs.«01_k».proof.Proof.Gen.ReferenceIdeal.Read
public import proofs.«01_k».proof.Proof.RefVal

@[expose] public section

set_option maxRecDepth 16384

noncomputable section

namespace Cert.RefVal

open Cert.ReferenceIdeal Cert.ReferenceIdeal.Gen Cert.ReferenceIdeal.Read Idealize.ShloMosaic

theorem refR_eq (x0 : V S4x1024x3072) (x2 : V S1024x3072) (x3 : V S1024) (x4 x5 : V S1024x1024) (x6 : V S1024x3072) (x7 : V S1024) (x8 : V S1024x64x3)
    (x9 : V S1024) (x10 : V S1024x64x3) (x11 x12 x13 : V S1024) (x14 : V S100x1024) (x15 : V S100) :
    val_main_v117 (F := Ideal) x0 x2 x3 x4 x5 x6 x7 x8 x9 x10 x11 x12 x13 x14 x15 = refR x0 x2 x3 x4 x5 x6 x7 x8 x9 x10 x11 x12 x13 x14 x15 := rfl

end Cert.RefVal

end
-- ==== Proof.PrepVal.lean ====
/- What the preparing call leaves in its outputs, entry by entry: the fused table, and the block-diagonal tables of the
   two convolutions. -/
module

public import proofs.«01_k».proof.Proof.KernelIdeal.PrepRuns
public import proofs.«01_k».proof.Proof.Spec
public import Idealize.ShloMosaic.Lib.Pointwise

@[expose] public section

set_option maxRecDepth 16384

noncomputable section

namespace Cert.PrepVal

open Cert.KernelIdeal Cert.KernelIdeal.Gen Idealize.ShloMosaic
open Cert.KernelIdeal.Prep (permTab wt1 wt2 cwPieces cwOut)

/-! ## The fused table -/

theorem pay2_apply (x y : Vec Ideal S1024x768 .f32) (e k : Fin 1024) : k0_pay2 x y (ix2 e k) = ∑ l, x (ix2 e l) * y (ix2 k l) := by
  unfold k0_pay2 k0_pay1
  pointwise

theorem pay3_apply (x y : Vec Ideal S1024x768 .f32) (e k : Fin 1024) : k0_pay3 x y (ix2 e k) = ∑ l, x (ix2 e l) * y (ix2 k l) := by
  unfold k0_pay3
  pointwise
  rw [pay2_apply]

theorem pay4_apply (x y : Vec Ideal S1024x768 .f32) (acc : Vec Ideal S1024x1024 .f32) (e k : Fin 1024) :
    k0_pay4 x y acc (ix2 e k) = acc (ix2 e k) + ∑ l, x (ix2 e l) * y (ix2 k l) := by
  unfold k0_pay4
  pointwise
  rw [pay2_apply]

theorem pay1_apply (x : Vec Ideal S1024x768 .f32) (e : Fin 1024) (l : Fin 768) : k0_pay1 x (ix2 e l) = x (ix2 e l) := by
  unfold k0_pay1
  pointwise

theorem pay6_apply (x : Vec Ideal S100x1024 .f32) (m : Fin 100) (c : Fin 1024) : k0_pay6 x (ix2 m c) = x (ix2 m c) := by
  unfold k0_pay6
  pointwise

theorem logistic_eq (x : EReal) : Ideal.logistic x = Spec.sig x := by
  unfold Spec.sig
  rw [Spec.one32_eq]
  rfl

/-- The fused table: the basis, through the gate, back through the basis. -/
theorem fused_apply (acc : Vec Ideal S1024x1024 .f32) (bias : Vec Ideal S1x1024 .f32) (P mask : Vec Ideal S1024x1024 .f32) (i j : Fin 1024) :
    k0_pay5 (k0_pay126 P) (k0_pay127 acc bias P mask) (ix2 i j) =
      ∑ k, (∑ e, P (ix2 i e) * Spec.gated (fun a b => acc (ix2 a b) + bias (ix2 0 b)) (fun a b => P (ix2 a b)) (fun a b => mask (ix2 a b)) k e) * P (ix2 j k) := by
  unfold k0_pay5 k0_pay127 k0_pay126 Spec.gated
  pointwise
  simp only [logistic_eq]

/-! ## The regrouping of the weights -/

/-- The column a regrouped column comes from. -/
def src (c : ℕ) : ℕ := 3 * (c % 64) + c / 64

/-- The word the regrouping computes for a column. -/
def word (c : ℕ) : BitVec 32 :=
  IntOp.addi
    (IntOp.muli (3#32)
      (Scalar.select
        (IntOp.andi
          (IntOp.xori
            (IntOp.cmpi CmpIPredicate.slt (IntOp.remsi ArithUnit.vector (BitVec.ofNat 32 c) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 c) (Scalar.select (Scalar.cmpi CmpIPredicate.eq 64#32 0#32) 1#32 64#32)) 0#32))
        (IntOp.addi (IntOp.remsi ArithUnit.vector (BitVec.ofNat 32 c) (Scalar.select (Scalar.cmpi CmpIPredicate.eq 64#32 0#32) 1#32 64#32)) (Scalar.select (Scalar.cmpi CmpIPredicate.eq 64#32 0#32) 1#32 64#32))
        (IntOp.remsi ArithUnit.vector (BitVec.ofNat 32 c) (Scalar.select (Scalar.cmpi CmpIPredicate.eq 64#32 0#32) 1#32 64#32))))
    (Scalar.select
      (IntOp.andi
        (IntOp.cmpi CmpIPredicate.ne
          (IntOp.subi (BitVec.setWidth 32 (IntOp.cmpi CmpIPredicate.sgt (BitVec.ofNat 32 c) 0#32)) (BitVec.setWidth 32 (IntOp.cmpi CmpIPredicate.slt (BitVec.ofNat 32 c) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 c) 64#32) 0#32))
      (IntOp.subi (IntOp.divsi ArithUnit.vector (BitVec.ofNat 32 c) 64#32) 1#32)
      (IntOp.divsi ArithUnit.vector (BitVec.ofNat 32 c) 64#32))

/-- The word is the source column. -/
theorem word_eq : ∀ c : Fin 192, word c.val = BitVec.ofNat 32 (src c.val) := by decide +kernel

theorem perm_apply (k c : Fin 192) : permTab (F := Ideal) (ix2 k c) = if k.val = src c.val then 1 else 0 := by
  unfold permTab k0_pay10 k0_pay7 k0_pay9 k0_pay8
  pointwise
  show FloatOps.sitofp FTy.f32 (BitVec.setWidth 32 (IntOp.cmpi CmpIPredicate.eq (BitVec.ofNat 32 k.val) (word c.val))) = _
  rw [word_eq]
  have hs : src c.val < 192 := by unfold src; omega
  by_cases h : k.val = src c.val
  · rw [if_pos h, h]
    have e : IntOp.cmpi CmpIPredicate.eq (BitVec.ofNat 32 (src c.val)) (BitVec.ofNat 32 (src c.val)) = 1#1 := by
      show BitVec.ofBool (_ == _) = _
      rw [beq_self_eq_true]; rfl
    rw [e]
    show (((BitVec.setWidth 32 1#1).toInt : ℝ) : EReal) = 1
    rw [show (BitVec.setWidth 32 1#1).toInt = 1 by decide]
    simp
  · rw [if_neg h]
    have e : IntOp.cmpi CmpIPredicate.eq (BitVec.ofNat 32 k.val) (BitVec.ofNat 32 (src c.val)) = 0#1 := by
      show BitVec.ofBool (_ == _) = _
      rw [beq_false_of_ne]; · rfl
      intro hh
      have := congrArg BitVec.toNat hh
      rw [BitVec.toNat_ofNat, BitVec.toNat_ofNat, Nat.mod_eq_of_lt (by omega), Nat.mod_eq_of_lt (by omega)] at this
      exact h this
    rw [e]
    show (((BitVec.setWidth 32 0#1).toInt : ℝ) : EReal) = 0
    rw [show (BitVec.setWidth 32 0#1).toInt = 0 by decide]
    simp

theorem wt2_apply (x : Vec Ideal S1024x192 .f32) (o : Fin 1024) (c : Fin 192) :
    wt2 x (ix2 o c) = x (ix2 o ⟨src c.val, by unfold src; omega⟩) := by
  unfold wt2 k0_pay69
  pointwise
  simp only [perm_apply, mul_ite, mul_one, mul_zero]
  rw [Finset.sum_eq_single (⟨src c.val, by unfold src; omega⟩ : Fin 192)]
  · rw [if_pos rfl]
  · intro b _ hb; rw [if_neg]; intro h; exact hb (Fin.ext h)
  · intro h; exact absurd (Finset.mem_univ _) h

theorem wt1_eq (x : Vec Ideal S1024x192 .f32) : wt1 x = wt2 x := rfl

/-! ## The block-diagonal tables -/

/-- An array read at a row and column given as numbers. -/
def at2 (x : Vec Ideal S1024x192 .f32) (a b : ℕ) : EReal := if h : a < 1024 ∧ b < 192 then x (ix2 ⟨a, h.1⟩ ⟨b, h.2⟩) else 0

/-- The table two regrouped weight arrays give, at four numbers. -/
def tabN (ws : ℕ → Vec Ideal S1024x192 .f32) (ci q r i : ℕ) : EReal :=
  if r % 256 / 64 = i / 64 then at2 (ws ci) (256 * q + r % 256) (64 * (r / 256) + i % 64) else 0

/-- The same at an index. -/
def tabI (ws : ℕ → Vec Ideal S1024x192 .f32) (y : S2x4x768x256.Idx) : EReal := tabN ws (y 0).val (y 1).val (y 2).val (y 3).val

/-- A stored block agrees with the table, and covers its own block of it. -/
def Agree (ws : ℕ → Vec Ideal S1024x192 .f32) (p : View.Piece (Elt Ideal) S2x4x768x256 .bf16) (k : ℕ × ℕ × ℕ × ℕ) : Prop :=
  (∀ j, p.2 j = tabI ws (p.1.emb j)) ∧
    ∀ y : S2x4x768x256.Idx, (y 0).val = k.1 → (y 1).val = k.2.1 → (y 2).val / 256 = k.2.2.1 → (y 2).val % 256 / 64 = k.2.2.2 → (y 3).val / 64 = k.2.2.2 → y ∈ p.1.set

theorem agree (ws : ℕ → Vec Ideal S1024x192 .f32) (x : Vec Ideal S1024x192 .f32) (ci q t gl : ℕ) (hx : x = ws ci) (o : Fin 4 → ℕ) (s : Fin 2 → ℕ)
    (h : ∀ a, o a + S1x1x64x64.size a ≤ S2x4x768x256.size a) (hs : S1024x192.Slices s S64x64)
    (hq : q < 4) (ht : t < 3) (hg : gl < 4)
    (ho : o = ![ci, q, 256 * t + 64 * gl, 64 * gl]) (he : s = ![256 * q + 64 * gl, 64 * t]) :
    Agree ws ⟨Rect.unit (s := S2x4x768x256) o S1x1x64x64.size h, shapeCast S1x1x64x64 (truncf (F := Ideal) .bf16 (extractStridedSlice S64x64 s x hs) bitsLt_bf16_f32) shapeCasts_S64x64_S1x1x64x64⟩
      (ci, q, t, gl) := by
  subst hx ho he
  constructor
  · intro j
    obtain ⟨z, z', a, b, rfl⟩ : ∃ (z z' : Fin 1) (a b : Fin 64), j = ix4 z z' a b := ⟨j 0, j 1, j 2, j 3, eq_ix4 _⟩
    have e : tabI ws ((Rect.unit (s := S2x4x768x256) ![ci, q, 256 * t + 64 * gl, 64 * gl] S1x1x64x64.size h).emb (ix4 z z' a b))
        = tabN ws ci q (256 * t + 64 * gl + a.val) (64 * gl + b.val) := by
      show tabN ws (ci + 1 * z.val) (q + 1 * z'.val) (256 * t + 64 * gl + 1 * a.val) (64 * gl + 1 * b.val) = _
      rw [show z.val = 0 by omega, show z'.val = 0 by omega]
      simp only [Nat.one_mul, Nat.mul_zero, Nat.add_zero]
    refine Eq.trans ?_ e.symm
    unfold tabN at2
    rw [if_pos (by omega), dif_pos (by constructor <;> omega)]
    pointwise
    congr 2
    · exact Fin.ext (by show 256 * q + 64 * gl + a.val = 256 * q + (256 * t + 64 * gl + a.val) % 256; omega)
    · exact Fin.ext (by show 64 * t + b.val = 64 * ((256 * t + 64 * gl + a.val) / 256) + (64 * gl + b.val) % 64; omega)
  · intro y h0 h1 h2 h3 h4
    refine (Rect.mem_set_unit (inb := h)).mpr ?_
    show ∀ a : Fin 4, _
    intro a
    have h0' : (y 0).val = ci := h0
    have h1' : (y 1).val = q := h1
    have h2' : (y 2).val / 256 = t := h2
    have h3' : (y 2).val % 256 / 64 = gl := h3
    have h4' : (y 3).val / 64 = gl := h4
    fin_cases a
    · show ci ≤ (y 0).val ∧ (y 0).val < ci + 1
      omega
    · show q ≤ (y 1).val ∧ (y 1).val < q + 1
      omega
    · show 256 * t + 64 * gl ≤ (y 2).val ∧ (y 2).val < 256 * t + 64 * gl + 64
      omega
    · show 64 * gl ≤ (y 3).val ∧ (y 3).val < 64 * gl + 64
      omega

/-- Where every block over a base agrees with a table, the stored array has the table's value at a place some block covers, and elsewhere
    either that or the base's. -/
theorem canon_agree (ws : ℕ → Vec Ideal S1024x192 .f32) (L : List (View.Piece (Elt Ideal) S2x4x768x256 .bf16)) (K : List (ℕ × ℕ × ℕ × ℕ))
    (base : List (View.Piece (Elt Ideal) S2x4x768x256 .bf16)) (h : List.Forall₂ (Agree ws) L K) (y : S2x4x768x256.Idx) :
    View.canon (L ++ base) y = tabI ws y ∨ (View.canon (L ++ base) y = View.canon base y ∧ ∀ p ∈ L, y ∉ p.1.set) := by
  induction h with
  | nil => right; exact ⟨rfl, fun p hp => absurd hp (List.not_mem_nil)⟩
  | @cons p k L' K' hp _ ih =>
    by_cases hy : y ∈ p.1.set
    · left
      obtain ⟨j, hj⟩ := LoadRect.exists_idx_of_mem p.1.toLoadRect hy
      have hj' : p.1.emb j = y := hj
      rw [← hj', List.cons_append]
      exact (View.canon_cons_emb p.1 p.2 (L' ++ base) j).trans (hp.1 j)
    · rw [List.cons_append, View.canon_cons_of_not_mem _ _ hy]
      rcases ih with ih | ⟨ih, ih'⟩
      · exact .inl ih
      · exact .inr ⟨ih, fun p' hp' => by rcases List.mem_cons.mp hp' with rfl | h'; exacts [hy, ih' _ h']⟩

/-- The two regrouped weight arrays by number. -/
def wsOf (x6 x7 : Vec Ideal S1024x192 .f32) : ℕ → Vec Ideal S1024x192 .f32
  | 0 => wt1 x6
  | _ => wt2 x7

/-- The blocks' numbers, last stored first. -/
def keys : List (ℕ × ℕ × ℕ × ℕ) := [(1, 3, 2, 3), (1, 3, 2, 2), (1, 3, 2, 1), (1, 3, 2, 0), (1, 2, 2, 3), (1, 2, 2, 2), (1, 2, 2, 1), (1, 2, 2, 0), (1, 1, 2, 3), (1, 1, 2, 2), (1, 1, 2, 1), (1, 1, 2, 0), (1, 0, 2, 3), (1, 0, 2, 2), (1, 0, 2, 1), (1, 0, 2, 0), (1, 3, 1, 3), (1, 3, 1, 2), (1, 3, 1, 1), (1, 3, 1, 0), (1, 2, 1, 3), (1, 2, 1, 2), (1, 2, 1, 1), (1, 2, 1, 0), (1, 1, 1, 3), (1, 1, 1, 2), (1, 1, 1, 1), (1, 1, 1, 0), (1, 0, 1, 3), (1, 0, 1, 2), (1, 0, 1, 1), (1, 0, 1, 0), (1, 3, 0, 3), (1, 3, 0, 2), (1, 3, 0, 1), (1, 3, 0, 0), (1, 2, 0, 3), (1, 2, 0, 2), (1, 2, 0, 1), (1, 2, 0, 0), (1, 1, 0, 3), (1, 1, 0, 2), (1, 1, 0, 1), (1, 1, 0, 0), (1, 0, 0, 3), (1, 0, 0, 2), (1, 0, 0, 1), (1, 0, 0, 0), (0, 3, 2, 3), (0, 3, 2, 2), (0, 3, 2, 1), (0, 3, 2, 0), (0, 2, 2, 3), (0, 2, 2, 2), (0, 2, 2, 1), (0, 2, 2, 0), (0, 1, 2, 3), (0, 1, 2, 2), (0, 1, 2, 1), (0, 1, 2, 0), (0, 0, 2, 3), (0, 0, 2, 2), (0, 0, 2, 1), (0, 0, 2, 0), (0, 3, 1, 3), (0, 3, 1, 2), (0, 3, 1, 1), (0, 3, 1, 0), (0, 2, 1, 3), (0, 2, 1, 2), (0, 2, 1, 1), (0, 2, 1, 0), (0, 1, 1, 3), (0, 1, 1, 2), (0, 1, 1, 1), (0, 1, 1, 0), (0, 0, 1, 3), (0, 0, 1, 2), (0, 0, 1, 1), (0, 0, 1, 0), (0, 3, 0, 3), (0, 3, 0, 2), (0, 3, 0, 1), (0, 3, 0, 0), (0, 2, 0, 3), (0, 2, 0, 2), (0, 2, 0, 1), (0, 2, 0, 0), (0, 1, 0, 3), (0, 1, 0, 2), (0, 1, 0, 1), (0, 1, 0, 0), (0, 0, 0, 3), (0, 0, 0, 2), (0, 0, 0, 1), (0, 0, 0, 0)]

/-- Every block stored agrees with the table. -/
theorem pieces_agree (x6 x7 : Vec Ideal S1024x192 .f32) : List.Forall₂ (Agree (wsOf x6 x7)) ((cwPieces x6 x7).dropLast) keys := by
  show List.Forall₂ (Agree (wsOf x6 x7)) (_ :: _) (_ :: _)
  refine .cons (agree _ (wt2 x7) 1 3 2 3 rfl _ _ _ _ (by decide) (by decide) (by decide) rfl rfl) ?_
  refine .cons (agree _ (wt2 x7) 1 3 2 2 rfl _ _ _ _ (by decide) (by decide) (by decide) rfl rfl) ?_
  refine .cons (agree _ (wt2 x7) 1 3 2 1 rfl _ _ _ _ (by decide) (by decide) (by decide) rfl rfl) ?_
  refine .cons (agree _ (wt2 x7) 1 3 2 0 rfl _ _ _ _ (by decide) (by decide) (by decide) rfl rfl) ?_
  refine .cons (agree _ (wt2 x7) 1 2 2 3 rfl _ _ _ _ (by decide) (by decide) (by decide) rfl rfl) ?_
  refine .cons (agree _ (wt2 x7) 1 2 2 2 rfl _ _ _ _ (by decide) (by decide) (by decide) rfl rfl) ?_
  refine .cons (agree _ (wt2 x7) 1 2 2 1 rfl _ _ _ _ (by decide) (by decide) (by decide) rfl rfl) ?_
  refine .cons (agree _ (wt2 x7) 1 2 2 0 rfl _ _ _ _ (by decide) (by decide) (by decide) rfl rfl) ?_
  refine .cons (agree _ (wt2 x7) 1 1 2 3 rfl _ _ _ _ (by decide) (by decide) (by decide) rfl rfl) ?_
  refine .cons (agree _ (wt2 x7) 1 1 2 2 rfl _ _ _ _ (by decide) (by decide) (by decide) rfl rfl) ?_
  refine .cons (agree _ (wt2 x7) 1 1 2 1 rfl _ _ _ _ (by decide) (by decide) (by decide) rfl rfl) ?_
  refine .cons (agree _ (wt2 x7) 1 1 2 0 rfl _ _ _ _ (by decide) (by decide) (by decide) rfl rfl) ?_
  refine .cons (agree _ (wt2 x7) 1 0 2 3 rfl _ _ _ _ (by decide) (by decide) (by decide) rfl rfl) ?_
  refine .cons (agree _ (wt2 x7) 1 0 2 2 rfl _ _ _ _ (by decide) (by decide) (by decide) rfl rfl) ?_
  refine .cons (agree _ (wt2 x7) 1 0 2 1 rfl _ _ _ _ (by decide) (by decide) (by decide) rfl rfl) ?_
  refine .cons (agree _ (wt2 x7) 1 0 2 0 rfl _ _ _ _ (by decide) (by decide) (by decide) rfl rfl) ?_
  refine .cons (agree _ (wt2 x7) 1 3 1 3 rfl _ _ _ _ (by decide) (by decide) (by decide) rfl rfl) ?_
  refine .cons (agree _ (wt2 x7) 1 3 1 2 rfl _ _ _ _ (by decide) (by decide) (by decide) rfl rfl) ?_
  refine .cons (agree _ (wt2 x7) 1 3 1 1 rfl _ _ _ _ (by decide) (by decide) (by decide) rfl rfl) ?_
  refine .cons (agree _ (wt2 x7) 1 3 1 0 rfl _ _ _ _ (by decide) (by decide) (by decide) rfl rfl) ?_
  refine .cons (agree _ (wt2 x7) 1 2 1 3 rfl _ _ _ _ (by decide) (by decide) (by decide) rfl rfl) ?_
  refine .cons (agree _ (wt2 x7) 1 2 1 2 rfl _ _ _ _ (by decide) (by decide) (by decide) rfl rfl) ?_
  refine .cons (agree _ (wt2 x7) 1 2 1 1 rfl _ _ _ _ (by decide) (by decide) (by decide) rfl rfl) ?_
  refine .cons (agree _ (wt2 x7) 1 2 1 0 rfl _ _ _ _ (by decide) (by decide) (by decide) rfl rfl) ?_
  refine .cons (agree _ (wt2 x7) 1 1 1 3 rfl _ _ _ _ (by decide) (by decide) (by decide) rfl rfl) ?_
  refine .cons (agree _ (wt2 x7) 1 1 1 2 rfl _ _ _ _ (by decide) (by decide) (by decide) rfl rfl) ?_
  refine .cons (agree _ (wt2 x7) 1 1 1 1 rfl _ _ _ _ (by decide) (by decide) (by decide) rfl rfl) ?_
  refine .cons (agree _ (wt2 x7) 1 1 1 0 rfl _ _ _ _ (by decide) (by decide) (by decide) rfl rfl) ?_
  refine .cons (agree _ (wt2 x7) 1 0 1 3 rfl _ _ _ _ (by decide) (by decide) (by decide) rfl rfl) ?_
  refine .cons (agree _ (wt2 x7) 1 0 1 2 rfl _ _ _ _ (by decide) (by decide) (by decide) rfl rfl) ?_
  refine .cons (agree _ (wt2 x7) 1 0 1 1 rfl _ _ _ _ (by decide) (by decide) (by decide) rfl rfl) ?_
  refine .cons (agree _ (wt2 x7) 1 0 1 0 rfl _ _ _ _ (by decide) (by decide) (by decide) rfl rfl) ?_
  refine .cons (agree _ (wt2 x7) 1 3 0 3 rfl _ _ _ _ (by decide) (by decide) (by decide) rfl rfl) ?_
  refine .cons (agree _ (wt2 x7) 1 3 0 2 rfl _ _ _ _ (by decide) (by decide) (by decide) rfl rfl) ?_
  refine .cons (agree _ (wt2 x7) 1 3 0 1 rfl _ _ _ _ (by decide) (by decide) (by decide) rfl rfl) ?_
  refine .cons (agree _ (wt2 x7) 1 3 0 0 rfl _ _ _ _ (by decide) (by decide) (by decide) rfl rfl) ?_
  refine .cons (agree _ (wt2 x7) 1 2 0 3 rfl _ _ _ _ (by decide) (by decide) (by decide) rfl rfl) ?_
  refine .cons (agree _ (wt2 x7) 1 2 0 2 rfl _ _ _ _ (by decide) (by decide) (by decide) rfl rfl) ?_
  refine .cons (agree _ (wt2 x7) 1 2 0 1 rfl _ _ _ _ (by decide) (by decide) (by decide) rfl rfl) ?_
  refine .cons (agree _ (wt2 x7) 1 2 0 0 rfl _ _ _ _ (by decide) (by decide) (by decide) rfl rfl) ?_
  refine .cons (agree _ (wt2 x7) 1 1 0 3 rfl _ _ _ _ (by decide) (by decide) (by decide) rfl rfl) ?_
  refine .cons (agree _ (wt2 x7) 1 1 0 2 rfl _ _ _ _ (by decide) (by decide) (by decide) rfl rfl) ?_
  refine .cons (agree _ (wt2 x7) 1 1 0 1 rfl _ _ _ _ (by decide) (by decide) (by decide) rfl rfl) ?_
  refine .cons (agree _ (wt2 x7) 1 1 0 0 rfl _ _ _ _ (by decide) (by decide) (by decide) rfl rfl) ?_
  refine .cons (agree _ (wt2 x7) 1 0 0 3 rfl _ _ _ _ (by decide) (by decide) (by decide) rfl rfl) ?_
  refine .cons (agree _ (wt2 x7) 1 0 0 2 rfl _ _ _ _ (by decide) (by decide) (by decide) rfl rfl) ?_
  refine .cons (agree _ (wt2 x7) 1 0 0 1 rfl _ _ _ _ (by decide) (by decide) (by decide) rfl rfl) ?_
  refine .cons (agree _ (wt2 x7) 1 0 0 0 rfl _ _ _ _ (by decide) (by decide) (by decide) rfl rfl) ?_
  refine .cons (agree _ (wt1 x6) 0 3 2 3 rfl _ _ _ _ (by decide) (by decide) (by decide) rfl rfl) ?_
  refine .cons (agree _ (wt1 x6) 0 3 2 2 rfl _ _ _ _ (by decide) (by decide) (by decide) rfl rfl) ?_
  refine .cons (agree _ (wt1 x6) 0 3 2 1 rfl _ _ _ _ (by decide) (by decide) (by decide) rfl rfl) ?_
  refine .cons (agree _ (wt1 x6) 0 3 2 0 rfl _ _ _ _ (by decide) (by decide) (by decide) rfl rfl) ?_
  refine .cons (agree _ (wt1 x6) 0 2 2 3 rfl _ _ _ _ (by decide) (by decide) (by decide) rfl rfl) ?_
  refine .cons (agree _ (wt1 x6) 0 2 2 2 rfl _ _ _ _ (by decide) (by decide) (by decide) rfl rfl) ?_
  refine .cons (agree _ (wt1 x6) 0 2 2 1 rfl _ _ _ _ (by decide) (by decide) (by decide) rfl rfl) ?_
  refine .cons (agree _ (wt1 x6) 0 2 2 0 rfl _ _ _ _ (by decide) (by decide) (by decide) rfl rfl) ?_
  refine .cons (agree _ (wt1 x6) 0 1 2 3 rfl _ _ _ _ (by decide) (by decide) (by decide) rfl rfl) ?_
  refine .cons (agree _ (wt1 x6) 0 1 2 2 rfl _ _ _ _ (by decide) (by decide) (by decide) rfl rfl) ?_
  refine .cons (agree _ (wt1 x6) 0 1 2 1 rfl _ _ _ _ (by decide) (by decide) (by decide) rfl rfl) ?_
  refine .cons (agree _ (wt1 x6) 0 1 2 0 rfl _ _ _ _ (by decide) (by decide) (by decide) rfl rfl) ?_
  refine .cons (agree _ (wt1 x6) 0 0 2 3 rfl _ _ _ _ (by decide) (by decide) (by decide) rfl rfl) ?_
  refine .cons (agree _ (wt1 x6) 0 0 2 2 rfl _ _ _ _ (by decide) (by decide) (by decide) rfl rfl) ?_
  refine .cons (agree _ (wt1 x6) 0 0 2 1 rfl _ _ _ _ (by decide) (by decide) (by decide) rfl rfl) ?_
  refine .cons (agree _ (wt1 x6) 0 0 2 0 rfl _ _ _ _ (by decide) (by decide) (by decide) rfl rfl) ?_
  refine .cons (agree _ (wt1 x6) 0 3 1 3 rfl _ _ _ _ (by decide) (by decide) (by decide) rfl rfl) ?_
  refine .cons (agree _ (wt1 x6) 0 3 1 2 rfl _ _ _ _ (by decide) (by decide) (by decide) rfl rfl) ?_
  refine .cons (agree _ (wt1 x6) 0 3 1 1 rfl _ _ _ _ (by decide) (by decide) (by decide) rfl rfl) ?_
  refine .cons (agree _ (wt1 x6) 0 3 1 0 rfl _ _ _ _ (by decide) (by decide) (by decide) rfl rfl) ?_
  refine .cons (agree _ (wt1 x6) 0 2 1 3 rfl _ _ _ _ (by decide) (by decide) (by decide) rfl rfl) ?_
  refine .cons (agree _ (wt1 x6) 0 2 1 2 rfl _ _ _ _ (by decide) (by decide) (by decide) rfl rfl) ?_
  refine .cons (agree _ (wt1 x6) 0 2 1 1 rfl _ _ _ _ (by decide) (by decide) (by decide) rfl rfl) ?_
  refine .cons (agree _ (wt1 x6) 0 2 1 0 rfl _ _ _ _ (by decide) (by decide) (by decide) rfl rfl) ?_
  refine .cons (agree _ (wt1 x6) 0 1 1 3 rfl _ _ _ _ (by decide) (by decide) (by decide) rfl rfl) ?_
  refine .cons (agree _ (wt1 x6) 0 1 1 2 rfl _ _ _ _ (by decide) (by decide) (by decide) rfl rfl) ?_
  refine .cons (agree _ (wt1 x6) 0 1 1 1 rfl _ _ _ _ (by decide) (by decide) (by decide) rfl rfl) ?_
  refine .cons (agree _ (wt1 x6) 0 1 1 0 rfl _ _ _ _ (by decide) (by decide) (by decide) rfl rfl) ?_
  refine .cons (agree _ (wt1 x6) 0 0 1 3 rfl _ _ _ _ (by decide) (by decide) (by decide) rfl rfl) ?_
  refine .cons (agree _ (wt1 x6) 0 0 1 2 rfl _ _ _ _ (by decide) (by decide) (by decide) rfl rfl) ?_
  refine .cons (agree _ (wt1 x6) 0 0 1 1 rfl _ _ _ _ (by decide) (by decide) (by decide) rfl rfl) ?_
  refine .cons (agree _ (wt1 x6) 0 0 1 0 rfl _ _ _ _ (by decide) (by decide) (by decide) rfl rfl) ?_
  refine .cons (agree _ (wt1 x6) 0 3 0 3 rfl _ _ _ _ (by decide) (by decide) (by decide) rfl rfl) ?_
  refine .cons (agree _ (wt1 x6) 0 3 0 2 rfl _ _ _ _ (by decide) (by decide) (by decide) rfl rfl) ?_
  refine .cons (agree _ (wt1 x6) 0 3 0 1 rfl _ _ _ _ (by decide) (by decide) (by decide) rfl rfl) ?_
  refine .cons (agree _ (wt1 x6) 0 3 0 0 rfl _ _ _ _ (by decide) (by decide) (by decide) rfl rfl) ?_
  refine .cons (agree _ (wt1 x6) 0 2 0 3 rfl _ _ _ _ (by decide) (by decide) (by decide) rfl rfl) ?_
  refine .cons (agree _ (wt1 x6) 0 2 0 2 rfl _ _ _ _ (by decide) (by decide) (by decide) rfl rfl) ?_
  refine .cons (agree _ (wt1 x6) 0 2 0 1 rfl _ _ _ _ (by decide) (by decide) (by decide) rfl rfl) ?_
  refine .cons (agree _ (wt1 x6) 0 2 0 0 rfl _ _ _ _ (by decide) (by decide) (by decide) rfl rfl) ?_
  refine .cons (agree _ (wt1 x6) 0 1 0 3 rfl _ _ _ _ (by decide) (by decide) (by decide) rfl rfl) ?_
  refine .cons (agree _ (wt1 x6) 0 1 0 2 rfl _ _ _ _ (by decide) (by decide) (by decide) rfl rfl) ?_
  refine .cons (agree _ (wt1 x6) 0 1 0 1 rfl _ _ _ _ (by decide) (by decide) (by decide) rfl rfl) ?_
  refine .cons (agree _ (wt1 x6) 0 1 0 0 rfl _ _ _ _ (by decide) (by decide) (by decide) rfl rfl) ?_
  refine .cons (agree _ (wt1 x6) 0 0 0 3 rfl _ _ _ _ (by decide) (by decide) (by decide) rfl rfl) ?_
  refine .cons (agree _ (wt1 x6) 0 0 0 2 rfl _ _ _ _ (by decide) (by decide) (by decide) rfl rfl) ?_
  refine .cons (agree _ (wt1 x6) 0 0 0 1 rfl _ _ _ _ (by decide) (by decide) (by decide) rfl rfl) ?_
  refine .cons (agree _ (wt1 x6) 0 0 0 0 rfl _ _ _ _ (by decide) (by decide) (by decide) rfl rfl) ?_
  exact .nil

/-- Forall₂ gives, for every member of the second list, a related member of the first. -/
theorem exists_of_key {α β : Type*} {R : α → β → Prop} {L : List α} {K : List β} (h : List.Forall₂ R L K) {k : β} (hk : k ∈ K) : ∃ p ∈ L, R p k := by
  induction h with
  | nil => exact absurd hk (List.not_mem_nil)
  | cons hp _ ih =>
    rcases List.mem_cons.mp hk with rfl | h'
    · exact ⟨_, List.mem_cons_self, hp⟩
    · obtain ⟨p, hp', hr⟩ := ih h'
      exact ⟨p, List.mem_cons_of_mem _ hp', hr⟩

theorem keys_all : ∀ (ci : Fin 2) (q : Fin 4) (t : Fin 3) (gl : Fin 4), (ci.val, q.val, t.val, gl.val) ∈ keys := by decide +kernel

/-- Under the blocks lie zeros. -/
theorem base_apply (y : S2x4x768x256.Idx) :
    View.canon [(⟨Rect.unit (s := S2x4x768x256) ![0, 0, 0, 0] S2x4x768x256.size inb_S2x4x768x256_S2x4x768x256_0_0_0_0, k0_pay11 (F := Ideal)⟩ : View.Piece (Elt Ideal) S2x4x768x256 .bf16)] y = (0 : EReal) := by
  rw [View.canon_cons_unit_zero (by funext a; fin_cases a <;> rfl)]
  unfold k0_pay11
  show Ideal.ofBits .bf16 0x0000#16 = 0
  simp [Ideal.ofBits, Ideal.ieee]

theorem cwPieces_split (x6 x7 : Vec Ideal S1024x192 .f32) : cwPieces x6 x7 = (cwPieces x6 x7).dropLast ++
    [(⟨Rect.unit (s := S2x4x768x256) ![0, 0, 0, 0] S2x4x768x256.size inb_S2x4x768x256_S2x4x768x256_0_0_0_0, k0_pay11 (F := Ideal)⟩ : View.Piece (Elt Ideal) S2x4x768x256 .bf16)] := rfl

/-- The stored table, at an index. -/
theorem cwOut_apply (x6 x7 : Vec Ideal S1024x192 .f32) (ci : Fin 2) (q : Fin 4) (r : Fin 768) (i : Fin 256) :
    cwOut x6 x7 (ix4 ci q r i) = tabN (wsOf x6 x7) ci.val q.val r.val i.val := by
  unfold cwOut
  rw [cwPieces_split]
  rcases canon_agree (wsOf x6 x7) _ _ [_] (pieces_agree x6 x7) (ix4 ci q r i) with h | ⟨h, hn⟩
  · exact h
  · rw [h, base_apply]
    unfold tabN
    by_cases hd : r.val % 256 / 64 = i.val / 64
    · obtain ⟨p, hp, ha⟩ := exists_of_key (pieces_agree x6 x7) (keys_all ci q ⟨r.val / 256, by omega⟩ ⟨i.val / 64, by omega⟩)
      exact absurd (ha.2 (ix4 ci q r i) rfl rfl rfl hd rfl) (hn p hp)
    · rw [if_neg hd]

theorem wsOf_apply (x6 x7 : Vec Ideal S1024x192 .f32) (ci : ℕ) (o : Fin 1024) (c : Fin 192) :
    wsOf x6 x7 ci (ix2 o c) = (if ci = 0 then x6 else x7) (ix2 o ⟨src c.val, by unfold src; omega⟩) := by
  cases ci with
  | zero => show wt1 x6 _ = _; rw [wt1_eq, wt2_apply, if_pos rfl]
  | succ n => show wt2 x7 _ = _; rw [wt2_apply, if_neg (Nat.succ_ne_zero n)]

/-- The stored table holds the groups' tables of both convolutions' weights. -/
theorem cwOut_tab (x6 x7 : Vec Ideal S1024x192 .f32) (w1 w2 : Fin 1024 → Fin 64 → Fin 3 → EReal)
    (h1 : ∀ o (i : Fin 64) (t : Fin 3), x6 (ix2 o ⟨i.val * 3 + t.val, by omega⟩) = w1 o i t)
    (h2 : ∀ o (i : Fin 64) (t : Fin 3), x7 (ix2 o ⟨i.val * 3 + t.val, by omega⟩) = w2 o i t) (ci : Fin 2) (q : Fin 4) (r : Fin 768) (i : Fin 256) :
    cwOut x6 x7 (ix4 ci q r i) = Spec.tab (if ci.val = 0 then w1 else w2) q r i := by
  rw [cwOut_apply]
  unfold tabN Spec.tab
  split
  · unfold at2
    rw [dif_pos (by constructor <;> omega), wsOf_apply]
    have e : (⟨src (64 * (r.val / 256) + i.val % 64), by unfold src; omega⟩ : Fin 192) = ⟨(⟨i.val % 64, by omega⟩ : Fin 64).val * 3 + (⟨r.val / 256, by omega⟩ : Fin 3).val, by show i.val % 64 * 3 + r.val / 256 < 192; omega⟩ :=
      Fin.ext (by show src _ = i.val % 64 * 3 + r.val / 256; unfold src; omega)
    have e' : (⟨256 * q.val + r.val % 256, by omega⟩ : Fin 1024) = ⟨q.val * 256 + r.val % 256, by omega⟩ := Fin.ext (by show 256 * q.val + r.val % 256 = q.val * 256 + r.val % 256; omega)
    rw [e, e']
    split
    · exact h1 _ _ _
    · exact h2 _ _ _
  · rfl

end Cert.PrepVal

end
-- ==== Proof.PrepArr.lean ====
/- What the first call leaves in its result arrays, element by element, in terms of the arrays it is entered with. -/
module

public import proofs.«01_k».proof.Proof.KernelIdeal.PrepBody
public import proofs.«01_k».proof.Proof.PrepVal
public import Idealize.ShloMosaic.Lib.Pipeline.ValueKit

@[expose] public section

set_option maxRecDepth 16384

noncomputable section

namespace Cert.PrepArr

open Cert.KernelIdeal Cert.KernelIdeal.Gen Cert.KernelIdeal.Prep
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-! ## Where each window's block lies -/

theorem e0 : ∀ t : Fin cfg0.N, win0_0.index t = ![0, t.val] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0, 0, 0] := (by decide +kernel : ∀ t : Fin grid0.N, _)

theorem lt4 (t : Fin cfg0.N) : t.val < 4 := lt_of_lt_of_eq t.isLt N_0

/-- The first weights' block is 768 of their columns. -/
theorem iblk_0 (t : Fin cfg0.N) (i : Fin 1024) (l : Fin 768) :
    (iblk V c 0 t : Vec Ideal S1024x768 .f32) (ix2 i l) = V c main_arg2 (ix2 i ⟨t.val * 768 + l.val, by have := lt4 t; omega⟩) := by
  have := lt4 t
  blk_ext [iblk, e0]
theorem iblk_1 (t : Fin cfg0.N) (i : Fin 1024) (l : Fin 768) :
    (iblk V c 1 t : Vec Ideal S1024x768 .f32) (ix2 i l) = V c main_arg6 (ix2 i ⟨t.val * 768 + l.val, by have := lt4 t; omega⟩) := by
  have := lt4 t
  blk_ext [iblk, e1]
theorem iblk_2 (t : Fin cfg0.N) (z : Fin 1) (i : Fin 1024) : (iblk V c 2 t : Vec Ideal S1x1024 .f32) (ix2 z i) = V c main_v0 (ix2 z i) := by
  blk_ext [iblk, e2]
theorem iblk_3 (t : Fin cfg0.N) (i j : Fin 1024) : (iblk V c 3 t : Vec Ideal S1024x1024 .f32) (ix2 i j) = V c main_arg4 (ix2 i j) := by
  blk_ext [iblk, e3]
theorem iblk_4 (t : Fin cfg0.N) (i j : Fin 1024) : (iblk V c 4 t : Vec Ideal S1024x1024 .f32) (ix2 i j) = V c main_arg5 (ix2 i j) := by
  blk_ext [iblk, e4]
theorem iblk_5 (t : Fin cfg0.N) (i : Fin 100) (j : Fin 1024) : (iblk V c 5 t : Vec Ideal S100x1024 .f32) (ix2 i j) = V c main_arg14 (ix2 i j) := by
  blk_ext [iblk, e5]
theorem iblk_6 (t : Fin cfg0.N) (i : Fin 1024) (j : Fin 192) : (iblk V c 6 t : Vec Ideal S1024x192 .f32) (ix2 i j) = V c main_v1 (ix2 i j) := by
  blk_ext [iblk, e6]
theorem iblk_7 (t : Fin cfg0.N) (i : Fin 1024) (j : Fin 192) : (iblk V c 7 t : Vec Ideal S1024x192 .f32) (ix2 i j) = V c main_v2 (ix2 i j) := by
  blk_ext [iblk, e7]

/-- The entered arrays' elements, as numbers. -/
abbrev xW (i : Fin 1024) (k : Fin 3072) : EReal := V c main_arg2 (ix2 i k)
abbrev xD (i : Fin 1024) (k : Fin 3072) : EReal := V c main_arg6 (ix2 i k)
abbrev xB (j : Fin 1024) : EReal := V c main_v0 (ix2 0 j)
abbrev xP (i j : Fin 1024) : EReal := V c main_arg4 (ix2 i j)
abbrev xM (i j : Fin 1024) : EReal := V c main_arg5 (ix2 i j)

/-- The second matrix of the fused projection: the first weights times the decoder's, plus its bias. -/
def W (i j : Fin 1024) : EReal := Spec.lin (xW V c) (xD V c) (xB V c) i j

/-- After point `n` the accumulator holds the first `n + 1` column blocks' products. -/
theorem accAt_apply (i j : Fin 1024) : ∀ (n : ℕ) (h : n < cfg0.N), accAt V c n h (ix2 i j)
    = ∑ a ∈ Finset.range (n + 1), ∑ l : Fin 768, (if ha : a < 4 then xW V c i ⟨a * 768 + l.val, by omega⟩ * xD V c j ⟨a * 768 + l.val, by omega⟩ else (0 : EReal)) := by
  intro n
  induction n with
  | zero =>
    intro h
    rw [Finset.sum_range_one]
    unfold accAt
    rw [PrepVal.pay3_apply]
    refine Finset.sum_congr rfl fun l _ => ?_
    rw [dif_pos (by omega), iblk_0, iblk_1]
  | succ n ih =>
    intro h
    have hN : n + 1 < 4 := lt_of_lt_of_eq h N_0
    rw [Finset.sum_range_succ, ← ih (by omega)]
    show k0_pay4 (F := Ideal) _ _ _ _ = _
    rw [PrepVal.pay4_apply]
    congr 1
    refine Finset.sum_congr rfl fun l _ => ?_
    rw [dif_pos (by omega), iblk_0, iblk_1]

/-- After the last point it holds the whole product. -/
theorem accAt_last (t : Fin cfg0.N) (h : t.val = 3) (i j : Fin 1024) : accAt V c t.val t.isLt (ix2 i j) = ∑ k : Fin 3072, xW V c i k * xD V c j k := by
  obtain ⟨n, hn⟩ := t
  obtain rfl : n = 3 := h
  rw [accAt_apply, show (∑ k : Fin 3072, xW V c i k * xD V c j k) = _ from Spec.sum_split 4 768 _,
    Finset.sum_range]
  refine Finset.sum_congr rfl fun a _ => Finset.sum_congr rfl fun l _ => ?_
  rw [dif_pos a.isLt]

/-! ## The result arrays -/

/-- The copy of the first weights is they. -/
theorem arr_9 (i : Fin 1024) (k : Fin 3072) : (dat V c).arrAt 9 cfg0.N (ix2 i k) = V c main_arg2 (ix2 i k) := by
  have h : (dat V c).arrAt 9 cfg0.N = fun y => V c main_arg2 (ix2 (y 0) (y 1)) := by
    refine (dat V c).arrAt_eq_of_covers 9 _ (by decide +kernel) fun t hf y => ?_
    blk_simp
    rw [after_9]
    obtain ⟨a, b, rfl⟩ : ∃ (a : Fin 1024) (b : Fin 768), y = ix2 a b := ⟨y 0, y 1, eq_ix2 _⟩
    refine (PrepVal.pay1_apply _ a b).trans ((iblk_0 V c t a b).trans ?_)
    blk_ext [e9]
  rw [h]; rfl

theorem arr_10 (i : Fin 100) (k : Fin 1024) : (dat V c).arrAt 10 cfg0.N (ix2 i k) = V c main_arg14 (ix2 i k) := by
  have h : (dat V c).arrAt 10 cfg0.N = fun y => V c main_arg14 (ix2 (y 0) (y 1)) := by
    refine (dat V c).arrAt_eq_of_covers 10 _ (by decide +kernel) fun t hf y => ?_
    blk_simp
    rw [after_10]
    obtain ⟨a, b, rfl⟩ : ∃ (a : Fin 100) (b : Fin 1024), y = ix2 a b := ⟨y 0, y 1, eq_ix2 _⟩
    refine (PrepVal.pay6_apply _ a b).trans ((iblk_5 V c t a b).trans ?_)
    blk_ext [e10]
  rw [h]; rfl

/-- The folded projection's elements. -/
def fold (i j : Fin 1024) : EReal := ∑ k, (∑ e, xP V c i e * Spec.gated (W V c) (xP V c) (xM V c) k e) * xP V c j k
def foldG (y : S1024x1024.Idx) : EReal := fold V c (y 0) (y 1)

/-- The folded projection. -/
theorem arr_8 (i j : Fin 1024) : (dat V c).arrAt 8 cfg0.N (ix2 i j)
    = fold V c i j := by
  have h : (dat V c).arrAt 8 cfg0.N = foldG V c := by
    refine (dat V c).arrAt_eq_of_covers 8 _ (by decide +kernel) fun t hf y => ?_
    have ht : t.val = 3 := by have := (flush0_8 t).mp hf; have := lt4 t; omega
    blk_simp
    rw [after_8]
    obtain ⟨a, b, rfl⟩ : ∃ (a b : Fin 1024), y = ix2 a b := ⟨y 0, y 1, eq_ix2 _⟩
    refine (PrepVal.fused_apply _ _ _ _ a b).trans ?_
    have hA : (fun a b => accAt V c t.val t.isLt (ix2 a b) + (iblk V c 2 t : Vec Ideal S1x1024 .f32) (ix2 0 b)) = W V c := by
      funext a b
      rw [accAt_last V c t ht, iblk_2]; rfl
    have hP : (fun a b => (iblk V c 3 t : Vec Ideal S1024x1024 .f32) (ix2 a b)) = xP V c := by funext a b; exact iblk_3 V c t a b
    have hM : (fun a b => (iblk V c 4 t : Vec Ideal S1024x1024 .f32) (ix2 a b)) = xM V c := by funext a b; exact iblk_4 V c t a b
    rw [hA, hP, hM]
    simp only [iblk_3]
    have ey : ((cfg0.win 8).blk t).view.emb (ix2 a b) = (ix2 a b : S1024x1024.Idx) := by blk_ext [e8]
    rw [ey]; rfl
  rw [h]; rfl

/-- The regrouped weights' elements. -/
def tabG (w1 w2 : Fin 1024 → Fin 64 → Fin 3 → EReal) (y : S2x4x768x256.Idx) : EReal := Spec.tab (if (y 0).val = 0 then w1 else w2) (y 1) (y 2) (y 3)

/-- The regrouped weights of both convolutions. -/
theorem arr_11 (w1 w2 : Fin 1024 → Fin 64 → Fin 3 → EReal)
    (h1 : ∀ o (i : Fin 64) (t : Fin 3), V c main_v1 (ix2 o ⟨i.val * 3 + t.val, by omega⟩) = w1 o i t)
    (h2 : ∀ o (i : Fin 64) (t : Fin 3), V c main_v2 (ix2 o ⟨i.val * 3 + t.val, by omega⟩) = w2 o i t)
    (ci : Fin 2) (q : Fin 4) (r : Fin 768) (i : Fin 256) :
    (dat V c).arrAt 11 cfg0.N (ix4 ci q r i) = Spec.tab (if ci.val = 0 then w1 else w2) q r i := by
  have h : (dat V c).arrAt 11 cfg0.N = tabG w1 w2 := by
    refine (dat V c).arrAt_eq_of_covers 11 _ (by decide +kernel) fun t hf y => ?_
    blk_simp
    rw [after_11]
    obtain ⟨a, b, d, e, rfl⟩ : ∃ (a : Fin 2) (b : Fin 4) (d : Fin 768) (e : Fin 256), y = ix4 a b d e := ⟨y 0, y 1, y 2, y 3, eq_ix4 _⟩
    refine (PrepVal.cwOut_tab _ _ w1 w2 (fun o i t' => (iblk_6 V c t _ _).trans (h1 o i t')) (fun o i t' => (iblk_7 V c t _ _).trans (h2 o i t')) a b d e).trans ?_
    have ey : ((cfg0.win 11).blk t).view.emb (ix4 a b d e) = (ix4 a b d e : S2x4x768x256.Idx) := by blk_ext [e11]
    rw [ey]; rfl
  rw [h]; rfl

end Cert.PrepArr

end
-- ==== Proof.MainVal.lean ====
/- What the main call stores for one image, entry by entry, as the functions of `Spec`. -/
module

public import proofs.«01_k».proof.Proof.KernelIdeal.MainRuns
public import proofs.«01_k».proof.Proof.Spec
public import Idealize.ShloMosaic.Lib.Pointwise

@[expose] public section

set_option maxRecDepth 16384

noncomputable section

namespace Cert.MainVal

open Cert.KernelIdeal Cert.KernelIdeal.Gen Idealize.ShloMosaic

/-- The named constant as a number of the ideal values. -/
abbrev rt : Ideal .f32 := Named.named κ "inv_sqrt2" 0x3F3504F3#32

theorem rt_eq : rt = Spec.rho := IdealRules.named_const.ideal_named_scalar _ _ _ _ rfl

/-- One group of 256 channels convolved with its table, ends padded with zero rows. -/
def convK (x : FVec Ideal S1024x256 .bf16) (w : Vec Ideal S1x1x768x256 .bf16) (bias : FVec Ideal S1x256 .f32) : FVec Ideal S1024x256 .f32 :=
  have v32 : FVec Ideal S1024x768 .f32 := matmul dot_S1024x256_S768x256_S1024x768_1_1_0_0_n_n none x (shapeCast S768x256 w shapeCasts_S1x1x768x256_S768x256 : FVec Ideal S768x256 .bf16) (constant S1024x768 .f32 0x00000000#32)
  have v33 : FVec Ideal S1024x256 .f32 := extractStridedSlice S1024x256 ![0, 0] v32 slices_S1024x768_o0_0_S1024x256
  have v34 : FVec Ideal S1024x256 .f32 := extractStridedSlice S1024x256 ![0, 256] v32 slices_S1024x768_o0_256_S1024x256
  have v35 : FVec Ideal S1024x256 .f32 := extractStridedSlice S1024x256 ![0, 512] v32 slices_S1024x768_o0_512_S1024x256
  have v36 : FVec Ideal S1x256 .f32 := broadcast S1x256 (Scalar.ofBits (F := Ideal) .f32 0x00000000#32)
  have v39 : FVec Ideal S1023x256 .f32 := extractStridedSlice S1023x256 ![0, 0] v33 slices_S1024x256_o0_0_S1023x256
  have v42 : FVec Ideal S1023x256 .f32 := extractStridedSlice S1023x256 ![1, 0] v35 slices_S1024x256_o1_0_S1023x256
  addf (addf (addf v34 (broadcastTo S1024x256 bias broadcasts_S1x256_S1024x256))
    (concatenate S1024x256 0 [⟨S1x256, v36⟩, ⟨S1023x256, v39⟩] concatenates_S1x256_S1023x256_S1024x256_d0))
    (concatenate S1024x256 0 [⟨S1023x256, v42⟩, ⟨S1x256, v36⟩] concatenates_S1023x256_S1x256_S1024x256_d0)

/-- A group convolved is the grouped convolution of its channels, once its window holds the group's table. -/
theorem convK_spec (q : Fin 4) (wt : Fin 1024 → Fin 64 → Fin 3 → EReal) (b : Fin 1024 → EReal) (f : Fin 1024 → Fin 1024 → EReal)
    (x : FVec Ideal S1024x256 .bf16) (w : Vec Ideal S1x1x768x256 .bf16) (bias : FVec Ideal S1x256 .f32)
    (hx : ∀ t (i : Fin 256), x (ix2 t i) = f t ⟨q.val * 256 + i.val, by omega⟩)
    (hw : ∀ r i, w (ix4 0 0 r i) = Spec.tab wt q r i)
    (hb : ∀ c : Fin 256, bias (ix2 0 c) = b ⟨q.val * 256 + c.val, by omega⟩) (t : Fin 1024) (c : Fin 256) :
    convK x w bias (ix2 t c) = Spec.conv wt b f t ⟨q.val * 256 + c.val, by omega⟩ := by
  unfold convK
  pointwise
  simp only [hx, hw, hb]
  have h0 : ∀ t, ∑ i : Fin 256, f t ⟨q.val * 256 + i.val, by omega⟩ * Spec.tab wt q ⟨c.val, by omega⟩ i
      = ∑ i : Fin 64, wt ⟨q.val * 256 + c.val, by omega⟩ i 0 * f t (Spec.chan ⟨q.val * 256 + c.val, by omega⟩ i) := fun t => by
    rw [← Spec.sum_tab wt q 0 c (f t), show (⟨c.val, by omega⟩ : Fin 768) = ⟨(0 : Fin 3).val * 256 + c.val, by omega⟩ from Fin.ext (by show c.val = 0 * 256 + c.val; omega)]
  have h1 : ∀ t, ∑ i : Fin 256, f t ⟨q.val * 256 + i.val, by omega⟩ * Spec.tab wt q ⟨256 + c.val, by omega⟩ i
      = ∑ i : Fin 64, wt ⟨q.val * 256 + c.val, by omega⟩ i 1 * f t (Spec.chan ⟨q.val * 256 + c.val, by omega⟩ i) := fun t => Spec.sum_tab wt q 1 c (f t)
  have h2 : ∀ t, ∑ i : Fin 256, f t ⟨q.val * 256 + i.val, by omega⟩ * Spec.tab wt q ⟨512 + c.val, by omega⟩ i
      = ∑ i : Fin 64, wt ⟨q.val * 256 + c.val, by omega⟩ i 2 * f t (Spec.chan ⟨q.val * 256 + c.val, by omega⟩ i) := fun t => Spec.sum_tab wt q 2 c (f t)
  show ((∑ i : Fin 256, f t ⟨q.val * 256 + i.val, by omega⟩ * Spec.tab wt q ⟨256 + c.val, by omega⟩ i + b ⟨q.val * 256 + c.val, by omega⟩)
    + (if h : t.val < 1 then (0 : EReal) else ∑ i : Fin 256, f ⟨t.val - 1, by omega⟩ ⟨q.val * 256 + i.val, by omega⟩ * Spec.tab wt q ⟨c.val, by omega⟩ i))
    + (if h : t.val < 1023 then ∑ i : Fin 256, f ⟨1 + t.val, by omega⟩ ⟨q.val * 256 + i.val, by omega⟩ * Spec.tab wt q ⟨512 + c.val, by omega⟩ i else (0 : EReal))
    = Spec.conv wt b f t ⟨q.val * 256 + c.val, by omega⟩
  simp only [h0, h1, h2]
  unfold Spec.conv
  have p0 : Spec.tap wt f 0 t ⟨q.val * 256 + c.val, by omega⟩ = if h : t.val < 1 then 0 else
      ∑ i : Fin 64, wt ⟨q.val * 256 + c.val, by omega⟩ i 0 * f ⟨t.val - 1, by omega⟩ (Spec.chan ⟨q.val * 256 + c.val, by omega⟩ i) := by
    unfold Spec.tap Spec.padAt
    by_cases ht : t.val < 1
    · rw [dif_pos ht]
      refine Finset.sum_eq_zero fun i _ => ?_
      rw [dif_neg (by show ¬ (1 ≤ 0 + t.val ∧ 0 + t.val - 1 < 1024); omega), mul_zero]
    · rw [dif_neg ht]
      refine Finset.sum_congr rfl fun i _ => ?_
      rw [dif_pos (by show 1 ≤ 0 + t.val ∧ 0 + t.val - 1 < 1024; omega)]
      congr 2
      exact Fin.ext (by show 0 + t.val - 1 = t.val - 1; omega)
  have p1 : Spec.tap wt f 1 t ⟨q.val * 256 + c.val, by omega⟩ =
      ∑ i : Fin 64, wt ⟨q.val * 256 + c.val, by omega⟩ i 1 * f t (Spec.chan ⟨q.val * 256 + c.val, by omega⟩ i) := by
    unfold Spec.tap Spec.padAt
    refine Finset.sum_congr rfl fun i _ => ?_
    rw [dif_pos (by show 1 ≤ 1 + t.val ∧ 1 + t.val - 1 < 1024; omega)]
    congr 2
    exact Fin.ext (by show 1 + t.val - 1 = t.val; omega)
  have p2 : Spec.tap wt f 2 t ⟨q.val * 256 + c.val, by omega⟩ = if h : t.val < 1023 then
      ∑ i : Fin 64, wt ⟨q.val * 256 + c.val, by omega⟩ i 2 * f ⟨1 + t.val, by omega⟩ (Spec.chan ⟨q.val * 256 + c.val, by omega⟩ i) else 0 := by
    unfold Spec.tap Spec.padAt
    by_cases ht : t.val < 1023
    · rw [dif_pos ht]
      refine Finset.sum_congr rfl fun i _ => ?_
      rw [dif_pos (by show 1 ≤ 2 + t.val ∧ 2 + t.val - 1 < 1024; omega)]
      congr 2
      exact Fin.ext (by show 2 + t.val - 1 = 1 + t.val; omega)
    · rw [dif_neg ht]
      refine Finset.sum_eq_zero fun i _ => ?_
      rw [dif_neg (by show ¬ (1 ≤ 2 + t.val ∧ 2 + t.val - 1 < 1024); omega), mul_zero]
  rw [p0, p1, p2]
  abel

/-- The gelu of a group. -/
def geluK (h : FVec Ideal S1024x256 .f32) : FVec Ideal S1024x256 .f32 :=
  mulf (mulf (broadcast S1024x256 (Scalar.ofBits (F := Ideal) .f32 0x3F000000#32)) h)
    (addf (broadcast S1024x256 (Scalar.ofBits (F := Ideal) .f32 0x3F800000#32)) (erf (mulf h (broadcast S1024x256 rt))))

theorem geluK_apply (h : FVec Ideal S1024x256 .f32) (t : Fin 1024) (c : Fin 256) : geluK h (ix2 t c) = Spec.gelu (h (ix2 t c)) := by
  unfold geluK Spec.gelu
  pointwise
  rw [rt_eq, ← Spec.one32_eq]
  rfl

/-- The groups side by side. -/
def catK (a b c d : FVec Ideal S1024x256 .f32) : FVec Ideal S1024x1024 .f32 :=
  concatenate S1024x1024 1 [⟨S1024x256, a⟩, ⟨S1024x256, b⟩, ⟨S1024x256, c⟩, ⟨S1024x256, d⟩] concatenates_S1024x256_S1024x256_S1024x256_S1024x256_S1024x1024_d1

/-- The groups side by side are one array, when each is the array's own columns. -/
theorem catK_spec (f : Fin 1024 → Fin 1024 → EReal) (a b c d : FVec Ideal S1024x256 .f32)
    (ha : ∀ t (i : Fin 256), a (ix2 t i) = f t ⟨(0 : Fin 4).val * 256 + i.val, by show 0 * 256 + _ < _; omega⟩)
    (hb : ∀ t (i : Fin 256), b (ix2 t i) = f t ⟨(1 : Fin 4).val * 256 + i.val, by show 1 * 256 + _ < _; omega⟩)
    (hc : ∀ t (i : Fin 256), c (ix2 t i) = f t ⟨(2 : Fin 4).val * 256 + i.val, by show 2 * 256 + _ < _; omega⟩)
    (hd : ∀ t (i : Fin 256), d (ix2 t i) = f t ⟨(3 : Fin 4).val * 256 + i.val, by show 3 * 256 + _ < _; omega⟩)
    (t j : Fin 1024) : catK a b c d (ix2 t j) = f t j := by
  unfold catK
  pointwise
  split
  · rw [ha]; congr 1; exact Fin.ext (by show 0 * 256 + j.val = j.val; omega)
  split
  · rw [hb]; congr 1; exact Fin.ext (by show 1 * 256 + (j.val - 256) = j.val; omega)
  split
  · rw [hc]; congr 1; exact Fin.ext (by show 2 * 256 + (j.val - 256 - 256) = j.val; omega)
  · rw [hd]; congr 1; exact Fin.ext (by show 3 * 256 + (j.val - 256 - 256 - 256) = j.val; omega)

/-- The mean of each row. -/
def meanK (y : FVec Ideal S1024x1024 .f32) : FVec Ideal S1024x1 .f32 :=
  divf (shapeCast S1024x1 (multiReduction (F := Ideal) .add [1] S1024 y 0x00000000#32 reduces_S1024x1024_S1024 (.inl rfl) rfl) shapeCasts_S1024_S1024x1)
    (broadcast S1024x1 (Scalar.ofBits (F := Ideal) .f32 0x44800000#32))

theorem meanK_apply (y : FVec Ideal S1024x1024 .f32) (t : Fin 1024) (z : Fin 1) : meanK y (ix2 t z) = Spec.mean (fun c => y (ix2 t c)) := by
  unfold meanK Spec.mean
  pointwise

/-- Each row less its mean. -/
def cenK (y : FVec Ideal S1024x1024 .f32) : FVec Ideal S1024x1024 .f32 := subf y (broadcastTo S1024x1024 (meanK y) broadcasts_S1024x1_S1024x1024)

theorem cenK_apply (y : FVec Ideal S1024x1024 .f32) (t c : Fin 1024) : cenK y (ix2 t c) = Spec.centred (fun c => y (ix2 t c)) c := by
  unfold cenK Spec.centred
  pointwise
  rw [meanK_apply]

/-- The normalised rows before scale and shift. -/
def normK (y : FVec Ideal S1024x1024 .f32) : FVec Ideal S1024x1024 .f32 :=
  mulf (cenK y) (broadcastTo S1024x1024 (rsqrt (addf (meanK (mulf (cenK y) (cenK y))) (broadcast S1024x1 (Scalar.ofBits (F := Ideal) .f32 0x3727C5AC#32)))) broadcasts_S1024x1_S1024x1024)

theorem normK_apply (y : FVec Ideal S1024x1024 .f32) (t c : Fin 1024) :
    normK y (ix2 t c) = Spec.centred (fun c => y (ix2 t c)) c * Ideal.rsqrt (Spec.mean (fun d => Spec.centred (fun c => y (ix2 t c)) d * Spec.centred (fun c => y (ix2 t c)) d) + Ideal.ofBits .f32 0x3727C5AC#32) := by
  unfold normK
  pointwise
  rw [meanK_apply]
  simp only [cenK_apply, mulf_apply]
  rfl

/-- One group convolved against the loads of its table and its bias. -/
def cv (x4 : Vec Ideal S2x4x768x256 .bf16) (o4 : Fin 4 → ℕ) (h4 : ∀ i, o4 i + (S1x1x768x256.size i) ≤ S2x4x768x256.size i) (xb : Vec Ideal S1x1024 .f32) (ob : Fin 2 → ℕ)
    (hb : ∀ i, ob i + (S1x256.size i) ≤ S1x1024.size i) (x : FVec Ideal S1024x256 .f32) : FVec Ideal S1024x256 .f32 :=
  convK (truncf .bf16 x bitsLt_bf16_f32) (View.ld x4 (Rect.unit (s := S2x4x768x256) o4 S1x1x768x256.size h4))
    (shapeCast S1x256 (View.ld xb (Rect.unit (s := S1x1024) ob S1x256.size hb)) shapeCasts_S1x256_S1x256)

theorem cv_spec (q : Fin 4) (wt : Fin 1024 → Fin 64 → Fin 3 → EReal) (b : Fin 1024 → EReal) (f : Fin 1024 → Fin 1024 → EReal)
    (x4 : Vec Ideal S2x4x768x256 .bf16) (o4 : Fin 4 → ℕ) (h4 : ∀ i, o4 i + (S1x1x768x256.size i) ≤ S2x4x768x256.size i) (xb : Vec Ideal S1x1024 .f32) (ob : Fin 2 → ℕ)
    (h : ∀ i, ob i + (S1x256.size i) ≤ S1x1024.size i) (x : FVec Ideal S1024x256 .f32)
    (hx : ∀ t (i : Fin 256), x (ix2 t i) = f t ⟨q.val * 256 + i.val, by omega⟩)
    (hw : ∀ r i, View.ld x4 (Rect.unit (s := S2x4x768x256) o4 S1x1x768x256.size h4) (ix4 0 0 r i) = Spec.tab wt q r i)
    (hb : ∀ c : Fin 256, View.ld xb (Rect.unit (s := S1x1024) ob S1x256.size h) (ix2 0 c) = b ⟨q.val * 256 + c.val, by omega⟩) (t : Fin 1024) (c : Fin 256) :
    cv x4 o4 h4 xb ob h x (ix2 t c) = Spec.conv wt b f t ⟨q.val * 256 + c.val, by omega⟩ := by
  unfold cv
  refine convK_spec q wt b f _ _ _ (fun t i => ?_) hw (fun c => ?_) t c
  · rw [← hx]; rfl
  · rw [← hb]; pointwise

theorem pay5_apply (y g : FVec Ideal S1024x1024 .f32) (s : Vec Ideal S1x1024 .f32) (w : Vec Ideal S100x1024 .bf16) (bm : Vec Ideal S100x1 .f32) (m : Fin 100) (t : Fin 1024) :
    k1_pay5 y g s w bm (ix3 0 m t) = (∑ c, w (ix2 m c) * (y (ix2 t c) * g (ix2 t c) + s (ix2 0 c))) + bm (ix2 m 0) := by
  unfold k1_pay5
  pointwise

theorem pay19_apply (g : Vec Ideal S1x1024 .f32) (t c : Fin 1024) : k1_pay19 g (ix2 t c) = g (ix2 0 c) := by
  unfold k1_pay19
  pointwise

theorem pay2_apply (x : Vec Ideal S1x1024x1536 .f32) (w : Vec Ideal S1x1024x1536 .bf16) (t j : Fin 1024) :
    k1_pay2 x w (ix2 t j) = ∑ k, x (ix3 0 t k) * w (ix3 0 j k) := by
  unfold k1_pay2
  pointwise

theorem pay6_apply (v9 acc : FVec Ideal S1024x1024 .f32) (bias : Vec Ideal S1x1024 .f32) (q : Vec Ideal S1024x1024 .bf16) (t j : Fin 1024) :
    k1_pay6 v9 acc bias q (ix2 t j) = ∑ i, (acc (ix2 t i) + v9 (ix2 t i) + bias (ix2 0 i)) * q (ix2 i j) := by
  unfold k1_pay6
  pointwise

/-- The stored image as one composition. -/
theorem outVal_eq (x0 : Vec Ideal S1x1024x1536 .f32) (s : Vec Ideal S1x1024x1536 .bf16) (acc : Vec Ideal S1024x1024 .f32) (x2 : Vec Ideal S1x1024 .f32)
    (x3 : Vec Ideal S1024x1024 .bf16) (x4 : Vec Ideal S2x4x768x256 .bf16) (x5 x6 x7 x8 : Vec Ideal S1x1024 .f32) (x9 : Vec Ideal S100x1024 .bf16) (x10 : Vec Ideal S100x1 .f32) :
    Cert.KernelIdeal.Main.outVal x0 s acc x2 x3 x4 x5 x6 x7 x8 x9 x10 =
      k1_pay5 (normK (catK
        (cv x4 ![1,0,0,0] inb_S2x4x768x256_S1x1x768x256_1_0_0_0 x6 ![0,0] inb_S1x1024_S1x256_0_0 (geluK (cv x4 ![0,0,0,0] inb_S2x4x768x256_S1x1x768x256_0_0_0_0 x5 ![0,0] inb_S1x1024_S1x256_0_0 (extractStridedSlice S1024x256 ![0, 0] (k1_pay6 (k1_pay2 x0 s) acc x2 x3) slices_S1024x1024_o0_0_S1024x256))))
        (cv x4 ![1,1,0,0] inb_S2x4x768x256_S1x1x768x256_1_1_0_0 x6 ![0,256] inb_S1x1024_S1x256_0_256 (geluK (cv x4 ![0,1,0,0] inb_S2x4x768x256_S1x1x768x256_0_1_0_0 x5 ![0,256] inb_S1x1024_S1x256_0_256 (extractStridedSlice S1024x256 ![0, 256] (k1_pay6 (k1_pay2 x0 s) acc x2 x3) slices_S1024x1024_o0_256_S1024x256))))
        (cv x4 ![1,2,0,0] inb_S2x4x768x256_S1x1x768x256_1_2_0_0 x6 ![0,512] inb_S1x1024_S1x256_0_512 (geluK (cv x4 ![0,2,0,0] inb_S2x4x768x256_S1x1x768x256_0_2_0_0 x5 ![0,512] inb_S1x1024_S1x256_0_512 (extractStridedSlice S1024x256 ![0, 512] (k1_pay6 (k1_pay2 x0 s) acc x2 x3) slices_S1024x1024_o0_512_S1024x256))))
        (cv x4 ![1,3,0,0] inb_S2x4x768x256_S1x1x768x256_1_3_0_0 x6 ![0,768] inb_S1x1024_S1x256_0_768 (geluK (cv x4 ![0,3,0,0] inb_S2x4x768x256_S1x1x768x256_0_3_0_0 x5 ![0,768] inb_S1x1024_S1x256_0_768 (extractStridedSlice S1024x256 ![0, 768] (k1_pay6 (k1_pay2 x0 s) acc x2 x3) slices_S1024x1024_o0_768_S1024x256))))))
      (k1_pay19 x7) x8 x9 x10 := rfl

/-- Group 0 of the result: both convolutions of its own 256 channels. -/
theorem quad0 (x4 : Vec Ideal S2x4x768x256 .bf16) (x5 x6 : Vec Ideal S1x1024 .f32) (y : FVec Ideal S1024x1024 .f32)
    (w1 w2 : Fin 1024 → Fin 64 → Fin 3 → EReal) (f : Fin 1024 → Fin 1024 → EReal)
    (h1 : ∀ q r i, x4 (ix4 0 q r i) = Spec.tab w1 q r i) (h2 : ∀ q r i, x4 (ix4 1 q r i) = Spec.tab w2 q r i)
    (hF : ∀ t j, y (ix2 t j) = f t j) (t : Fin 1024) (i : Fin 256) :
    cv x4 ![1,0,0,0] inb_S2x4x768x256_S1x1x768x256_1_0_0_0 x6 ![0,0] inb_S1x1024_S1x256_0_0 (geluK (cv x4 ![0,0,0,0] inb_S2x4x768x256_S1x1x768x256_0_0_0_0 x5 ![0,0] inb_S1x1024_S1x256_0_0 (extractStridedSlice S1024x256 ![0, 0] y slices_S1024x1024_o0_0_S1024x256))) (ix2 t i)
      = Spec.conv w2 (fun c => x6 (ix2 0 c)) (fun t c => Spec.gelu (Spec.conv w1 (fun c => x5 (ix2 0 c)) f t c)) t ⟨(0 : Fin 4).val * 256 + i.val, by omega⟩ := by
  refine cv_spec 0 w2 _ _ x4 _ _ x6 _ _ _ (fun t i => (geluK_apply _ t i).trans (congrArg Spec.gelu (cv_spec 0 w1 _ f x4 _ _ x5 _ _ _ (fun t i => ?_) (fun r i => ?_) (fun c => ?_) t i)))
       (fun r i => ?_) (fun c => ?_) t i
  · rw [← hF]; pointwise
  · rw [← h1, View.ld_unit]; pointwise
  · rw [View.ld_unit]; pointwise
  · rw [← h2, View.ld_unit]; pointwise
  · rw [View.ld_unit]; pointwise

/-- Group 1 of the result: both convolutions of its own 256 channels. -/
theorem quad1 (x4 : Vec Ideal S2x4x768x256 .bf16) (x5 x6 : Vec Ideal S1x1024 .f32) (y : FVec Ideal S1024x1024 .f32)
    (w1 w2 : Fin 1024 → Fin 64 → Fin 3 → EReal) (f : Fin 1024 → Fin 1024 → EReal)
    (h1 : ∀ q r i, x4 (ix4 0 q r i) = Spec.tab w1 q r i) (h2 : ∀ q r i, x4 (ix4 1 q r i) = Spec.tab w2 q r i)
    (hF : ∀ t j, y (ix2 t j) = f t j) (t : Fin 1024) (i : Fin 256) :
    cv x4 ![1,1,0,0] inb_S2x4x768x256_S1x1x768x256_1_1_0_0 x6 ![0,256] inb_S1x1024_S1x256_0_256 (geluK (cv x4 ![0,1,0,0] inb_S2x4x768x256_S1x1x768x256_0_1_0_0 x5 ![0,256] inb_S1x1024_S1x256_0_256 (extractStridedSlice S1024x256 ![0, 256] y slices_S1024x1024_o0_256_S1024x256))) (ix2 t i)
      = Spec.conv w2 (fun c => x6 (ix2 0 c)) (fun t c => Spec.gelu (Spec.conv w1 (fun c => x5 (ix2 0 c)) f t c)) t ⟨(1 : Fin 4).val * 256 + i.val, by omega⟩ := by
  refine cv_spec 1 w2 _ _ x4 _ _ x6 _ _ _ (fun t i => (geluK_apply _ t i).trans (congrArg Spec.gelu (cv_spec 1 w1 _ f x4 _ _ x5 _ _ _ (fun t i => ?_) (fun r i => ?_) (fun c => ?_) t i)))
       (fun r i => ?_) (fun c => ?_) t i
  · rw [← hF]; pointwise
  · rw [← h1, View.ld_unit]; pointwise
  · rw [View.ld_unit]; pointwise
  · rw [← h2, View.ld_unit]; pointwise
  · rw [View.ld_unit]; pointwise

/-- Group 2 of the result: both convolutions of its own 256 channels. -/
theorem quad2 (x4 : Vec Ideal S2x4x768x256 .bf16) (x5 x6 : Vec Ideal S1x1024 .f32) (y : FVec Ideal S1024x1024 .f32)
    (w1 w2 : Fin 1024 → Fin 64 → Fin 3 → EReal) (f : Fin 1024 → Fin 1024 → EReal)
    (h1 : ∀ q r i, x4 (ix4 0 q r i) = Spec.tab w1 q r i) (h2 : ∀ q r i, x4 (ix4 1 q r i) = Spec.tab w2 q r i)
    (hF : ∀ t j, y (ix2 t j) = f t j) (t : Fin 1024) (i : Fin 256) :
    cv x4 ![1,2,0,0] inb_S2x4x768x256_S1x1x768x256_1_2_0_0 x6 ![0,512] inb_S1x1024_S1x256_0_512 (geluK (cv x4 ![0,2,0,0] inb_S2x4x768x256_S1x1x768x256_0_2_0_0 x5 ![0,512] inb_S1x1024_S1x256_0_512 (extractStridedSlice S1024x256 ![0, 512] y slices_S1024x1024_o0_512_S1024x256))) (ix2 t i)
      = Spec.conv w2 (fun c => x6 (ix2 0 c)) (fun t c => Spec.gelu (Spec.conv w1 (fun c => x5 (ix2 0 c)) f t c)) t ⟨(2 : Fin 4).val * 256 + i.val, by omega⟩ := by
  refine cv_spec 2 w2 _ _ x4 _ _ x6 _ _ _ (fun t i => (geluK_apply _ t i).trans (congrArg Spec.gelu (cv_spec 2 w1 _ f x4 _ _ x5 _ _ _ (fun t i => ?_) (fun r i => ?_) (fun c => ?_) t i)))
       (fun r i => ?_) (fun c => ?_) t i
  · rw [← hF]; pointwise
  · rw [← h1, View.ld_unit]; pointwise
  · rw [View.ld_unit]; pointwise
  · rw [← h2, View.ld_unit]; pointwise
  · rw [View.ld_unit]; pointwise

/-- Group 3 of the result: both convolutions of its own 256 channels. -/
theorem quad3 (x4 : Vec Ideal S2x4x768x256 .bf16) (x5 x6 : Vec Ideal S1x1024 .f32) (y : FVec Ideal S1024x1024 .f32)
    (w1 w2 : Fin 1024 → Fin 64 → Fin 3 → EReal) (f : Fin 1024 → Fin 1024 → EReal)
    (h1 : ∀ q r i, x4 (ix4 0 q r i) = Spec.tab w1 q r i) (h2 : ∀ q r i, x4 (ix4 1 q r i) = Spec.tab w2 q r i)
    (hF : ∀ t j, y (ix2 t j) = f t j) (t : Fin 1024) (i : Fin 256) :
    cv x4 ![1,3,0,0] inb_S2x4x768x256_S1x1x768x256_1_3_0_0 x6 ![0,768] inb_S1x1024_S1x256_0_768 (geluK (cv x4 ![0,3,0,0] inb_S2x4x768x256_S1x1x768x256_0_3_0_0 x5 ![0,768] inb_S1x1024_S1x256_0_768 (extractStridedSlice S1024x256 ![0, 768] y slices_S1024x1024_o0_768_S1024x256))) (ix2 t i)
      = Spec.conv w2 (fun c => x6 (ix2 0 c)) (fun t c => Spec.gelu (Spec.conv w1 (fun c => x5 (ix2 0 c)) f t c)) t ⟨(3 : Fin 4).val * 256 + i.val, by omega⟩ := by
  refine cv_spec 3 w2 _ _ x4 _ _ x6 _ _ _ (fun t i => (geluK_apply _ t i).trans (congrArg Spec.gelu (cv_spec 3 w1 _ f x4 _ _ x5 _ _ _ (fun t i => ?_) (fun r i => ?_) (fun c => ?_) t i)))
       (fun r i => ?_) (fun c => ?_) t i
  · rw [← hF]; pointwise
  · rw [← h1, View.ld_unit]; pointwise
  · rw [View.ld_unit]; pointwise
  · rw [← h2, View.ld_unit]; pointwise
  · rw [View.ld_unit]; pointwise

/-- The stored image: everything after the fused projection, of the fused projection the accumulators and the fused table give. -/
theorem outVal_apply (x0 : Vec Ideal S1x1024x1536 .f32) (s : Vec Ideal S1x1024x1536 .bf16) (acc : Vec Ideal S1024x1024 .f32) (x2 : Vec Ideal S1x1024 .f32)
    (x3 : Vec Ideal S1024x1024 .bf16) (x4 : Vec Ideal S2x4x768x256 .bf16) (x5 x6 x7 x8 : Vec Ideal S1x1024 .f32) (x9 : Vec Ideal S100x1024 .bf16) (x10 : Vec Ideal S100x1 .f32)
    (w1 w2 : Fin 1024 → Fin 64 → Fin 3 → EReal) (f : Fin 1024 → Fin 1024 → EReal)
    (h1 : ∀ q r i, x4 (ix4 0 q r i) = Spec.tab w1 q r i) (h2 : ∀ q r i, x4 (ix4 1 q r i) = Spec.tab w2 q r i)
    (hf : ∀ t j, ∑ i, (acc (ix2 t i) + (∑ k, x0 (ix3 0 t k) * s (ix3 0 i k)) + x2 (ix2 0 i)) * x3 (ix2 i j) = f t j) (m : Fin 100) (t : Fin 1024) :
    Cert.KernelIdeal.Main.outVal x0 s acc x2 x3 x4 x5 x6 x7 x8 x9 x10 (ix3 0 m t) =
      Spec.tail w1 (fun c => x5 (ix2 0 c)) w2 (fun c => x6 (ix2 0 c)) (fun c => x7 (ix2 0 c)) (fun c => x8 (ix2 0 c)) (fun m c => x9 (ix2 m c)) (fun m => x10 (ix2 m 0)) f m t := by
  have hF : ∀ t j, k1_pay6 (k1_pay2 x0 s) acc x2 x3 (ix2 t j) = f t j := fun t j => by
    rw [pay6_apply]; simp only [pay2_apply]; exact hf t j
  rw [outVal_eq, pay5_apply]
  unfold Spec.tail Spec.norm
  congr 1
  refine Finset.sum_congr rfl fun c _ => ?_
  rw [mul_comm, pay19_apply, normK_apply]
  have hcat := fun t j => catK_spec (Spec.conv w2 (fun c => x6 (ix2 0 c)) (fun t c => Spec.gelu (Spec.conv w1 (fun c => x5 (ix2 0 c)) f t c))) _ _ _ _
    (quad0 x4 x5 x6 _ w1 w2 f h1 h2 hF) (quad1 x4 x5 x6 _ w1 w2 f h1 h2 hF) (quad2 x4 x5 x6 _ w1 w2 f h1 h2 hF) (quad3 x4 x5 x6 _ w1 w2 f h1 h2 hF) t j
  simp only [hcat]

end Cert.MainVal

end
-- ==== Proof.MainArr.lean ====
/- What the second call leaves in its result array, element by element, in terms of the arrays it is entered with. -/
module

public import proofs.«01_k».proof.Proof.KernelIdeal.MainBody
public import proofs.«01_k».proof.Proof.MainVal
public import Idealize.ShloMosaic.Lib.Pipeline.ValueKit

@[expose] public section

set_option maxRecDepth 16384

noncomputable section

namespace Cert.MainArr

open Cert.KernelIdeal Cert.KernelIdeal.Gen Cert.KernelIdeal.Main
open Idealize.ShloMosaic Idealize.ShloMosaic.TcCoe
open Idealize.ShloMosaic.Pipeline (Dat Cfg Window)

variable (V : (c : Dev nD) → (b : Ref sig .tc) → Buf (Elt Ideal) ((c : Thread nD τ).loc b)) (c : Dev nD)

/-! ## Where each window's block lies -/

theorem e0 : ∀ t : Fin cfg1.N, win1_0.index t = ![t.val / 2, 0, t.val % 2] := (by decide +kernel : ∀ t : Fin grid1.N, _)
theorem e1 : ∀ t : Fin cfg1.N, win1_1.index (first t) = ![0, t.val % 2] := (by decide +kernel : ∀ t : Fin grid1.N, _)
theorem e2 : ∀ t : Fin cfg1.N, win1_2.index t = ![0, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0, 0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0] := (by decide +kernel : ∀ t : Fin grid1.N, _)
theorem e7 : ∀ t : Fin cfg1.N, win1_7.index t = ![0, 0] := (by decide +kernel : ∀ t : Fin grid1.N, _)
theorem e8 : ∀ t : Fin cfg1.N, win1_8.index t = ![0, 0] := (by decide +kernel : ∀ t : Fin grid1.N, _)
theorem e9 : ∀ t : Fin cfg1.N, win1_9.index t = ![0, 0] := (by decide +kernel : ∀ t : Fin grid1.N, _)
theorem e10 : ∀ t : Fin cfg1.N, win1_10.index t = ![0, 0] := (by decide +kernel : ∀ t : Fin grid1.N, _)
theorem e11 : ∀ t : Fin cfg1.N, win1_11.index t = ![t.val / 2, 0, 0] := (by decide +kernel : ∀ t : Fin grid1.N, _)

theorem lt8 (t : Fin cfg1.N) : t.val < 8 := lt_of_lt_of_eq t.isLt N_1

/-- The embeddings' block is one image's, half of its columns. -/
theorem iblk_0 (t : Fin cfg1.N) (z : Fin 1) (i : Fin 1024) (k : Fin 1536) :
    (iblk V c 0 t : Vec Ideal S1x1024x1536 .f32) (ix3 z i k) = V c main_arg0 (ix3 ⟨t.val / 2, by have := lt8 t; omega⟩ i ⟨t.val % 2 * 1536 + k.val, by omega⟩) := by
  have := lt8 t
  blk_ext [iblk, e0]
/-- The weights' block, as it was read during the first image. -/
theorem iblk_1 (t : Fin cfg1.N) (i : Fin 1024) (k : Fin 1536) :
    (iblk V c 1 (first t) : Vec Ideal S1024x1536 .bf16) (ix2 i k) = V c main_v3_1 (ix2 i ⟨t.val % 2 * 1536 + k.val, by omega⟩) := by
  have := lt8 t
  blk_ext [iblk, e1]
theorem iblk_2 (t : Fin cfg1.N) (z : Fin 1) (i : Fin 1024) : (iblk V c 2 t : Vec Ideal S1x1024 .f32) (ix2 z i) = V c main_v4 (ix2 z i) := by
  blk_ext [iblk, e2]
theorem iblk_3 (t : Fin cfg1.N) (i j : Fin 1024) : (iblk V c 3 t : Vec Ideal S1024x1024 .bf16) (ix2 i j) = V c main_v3_0 (ix2 i j) := by
  blk_ext [iblk, e3]
theorem iblk_4 (t : Fin cfg1.N) (a : Fin 2) (q : Fin 4) (r : Fin 768) (i : Fin 256) : (iblk V c 4 t : Vec Ideal S2x4x768x256 .bf16) (ix4 a q r i) = V c main_v3_3 (ix4 a q r i) := by
  blk_ext [iblk, e4]
theorem iblk_5 (t : Fin cfg1.N) (z : Fin 1) (i : Fin 1024) : (iblk V c 5 t : Vec Ideal S1x1024 .f32) (ix2 z i) = V c main_v5 (ix2 z i) := by
  blk_ext [iblk, e5]
theorem iblk_6 (t : Fin cfg1.N) (z : Fin 1) (i : Fin 1024) : (iblk V c 6 t : Vec Ideal S1x1024 .f32) (ix2 z i) = V c main_v6 (ix2 z i) := by
  blk_ext [iblk, e6]
theorem iblk_7 (t : Fin cfg1.N) (z : Fin 1) (i : Fin 1024) : (iblk V c 7 t : Vec Ideal S1x1024 .f32) (ix2 z i) = V c main_v7 (ix2 z i) := by
  blk_ext [iblk, e7]
theorem iblk_8 (t : Fin cfg1.N) (z : Fin 1) (i : Fin 1024) : (iblk V c 8 t : Vec Ideal S1x1024 .f32) (ix2 z i) = V c main_v8 (ix2 z i) := by
  blk_ext [iblk, e8]
theorem iblk_9 (t : Fin cfg1.N) (i : Fin 100) (j : Fin 1024) : (iblk V c 9 t : Vec Ideal S100x1024 .bf16) (ix2 i j) = V c main_v3_2 (ix2 i j) := by
  blk_ext [iblk, e9]
theorem iblk_10 (t : Fin cfg1.N) (i : Fin 100) (z : Fin 1) : (iblk V c 10 t : Vec Ideal S100x1 .f32) (ix2 i z) = V c main_v9 (ix2 i z) := by
  blk_ext [iblk, e10]

/-- The entered arrays' elements, as numbers. -/
abbrev xL (b : Fin 4) (t : Fin 1024) (k : Fin 3072) : EReal := V c main_arg0 (ix3 b t k)
abbrev xW (i : Fin 1024) (k : Fin 3072) : EReal := V c main_v3_1 (ix2 i k)
abbrev xB (j : Fin 1024) : EReal := V c main_v4 (ix2 0 j)
abbrev xQ (i j : Fin 1024) : EReal := V c main_v3_0 (ix2 i j)
abbrev xC1 (j : Fin 1024) : EReal := V c main_v5 (ix2 0 j)
abbrev xC2 (j : Fin 1024) : EReal := V c main_v6 (ix2 0 j)
abbrev xG (j : Fin 1024) : EReal := V c main_v7 (ix2 0 j)
abbrev xS (j : Fin 1024) : EReal := V c main_v8 (ix2 0 j)
abbrev xWm (m : Fin 100) (j : Fin 1024) : EReal := V c main_v3_2 (ix2 m j)
abbrev xBm (m : Fin 100) : EReal := V c main_v9 (ix2 m 0)

/-- The slab keeps the block's elements. -/
theorem winAt_apply (t : Fin cfg1.N) (z : Fin 1) (i : Fin 1024) (k : Fin 1536) : winAt V c t (ix3 z i k) = xW V c i ⟨t.val % 2 * 1536 + k.val, by omega⟩ := by
  refine Eq.trans ?_ (iblk_1 V c t i k)
  obtain rfl : z = 0 := Subsingleton.elim _ _
  unfold winAt k1_pay1
  pointwise

/-- A point's block of embeddings, slab and accumulator, as numbers. -/
def bL (t : Fin cfg1.N) (i : Fin 1024) (k : Fin 1536) : EReal := (iblk V c 0 t : Vec Ideal S1x1024x1536 .f32) (ix3 0 i k)
def bW (t : Fin cfg1.N) (j : Fin 1024) (k : Fin 1536) : EReal := winAt V c t (ix3 0 j k)
def bA (t : Fin cfg1.N) (i j : Fin 1024) : EReal := accAt V c t (ix2 i j)
def bB (t : Fin cfg1.N) (j : Fin 1024) : EReal := (iblk V c 2 t : Vec Ideal S1x1024 .f32) (ix2 0 j)

/-- The product of a point: half of the columns. -/
theorem part_apply (t : Fin cfg1.N) (i j : Fin 1024) :
    (∑ k : Fin 1536, bL V c t i k * bW V c t j k)
      = ∑ k : Fin 1536, xL V c ⟨t.val / 2, by have := lt8 t; omega⟩ i ⟨t.val % 2 * 1536 + k.val, by omega⟩ * xW V c j ⟨t.val % 2 * 1536 + k.val, by omega⟩ :=
  Finset.sum_congr rfl fun k _ => congrArg₂ (· * ·) (iblk_0 V c t 0 i k) (winAt_apply V c t 0 j k)

theorem accAt_apply (t : Fin cfg1.N) (i j : Fin 1024) :
    bA V c t i j
      = ∑ k : Fin 1536, xL V c ⟨t.val / 2, by have := lt8 t; omega⟩ i ⟨t.val % 2 * 1536 + k.val, by omega⟩ * xW V c j ⟨t.val % 2 * 1536 + k.val, by omega⟩ := by
  refine Eq.trans ?_ (part_apply V c t i j)
  refine Eq.trans ?_ (MainVal.pay2_apply (iblk V c 0 t) (winAt V c t) i j)
  unfold bA accAt k1_pay3
  pointwise

/-- At an image's second point, both halves and the bias make the whole projection. -/
theorem proj_apply (t : Fin cfg1.N) (h : t.val % 2 = 1) (i j : Fin 1024) :
    bA V c (prev t) i j + (∑ k : Fin 1536, bL V c t i k * bW V c t j k)
        + bB V c t j
      = Spec.lin (xL V c ⟨t.val / 2, by have := lt8 t; omega⟩) (xW V c) (xB V c) i j := by
  have h8 := lt8 t
  rw [part_apply, accAt_apply, show bB V c t j = xB V c j from iblk_2 V c t 0 j]
  unfold Spec.lin
  rw [show (∑ k : Fin 3072, xL V c ⟨t.val / 2, by omega⟩ i k * xW V c j k) = _ from Spec.sum_split 2 1536 _, Fin.sum_univ_two]
  have p1 : (prev t).val / 2 = t.val / 2 := by show (t.val - 1) / 2 = _; omega
  have p2 : (prev t).val % 2 = 0 := by show (t.val - 1) % 2 = _; omega
  simp only [p1, p2, h]
  rfl

/-- Where a point's result block lies. -/
theorem emb_11 (t : Fin cfg1.N) (z : Fin 1) (m : Fin 100) (s : Fin 1024) :
    ((cfg1.win 11).blk t).view.emb (ix3 z m s) = (ix3 (⟨t.val / 2, by have := lt8 t; omega⟩ : Fin 4) m s : S4x100x1024.Idx) := by
  have := lt8 t
  blk_ext [e11]

/-- The result array's elements. -/
def outG (w1 w2 : Fin 1024 → Fin 64 → Fin 3 → EReal) (y : S4x100x1024.Idx) : EReal :=
  Spec.tail w1 (xC1 V c) w2 (xC2 V c) (xG V c) (xS V c) (xWm V c) (xBm V c)
    (fun t j => ∑ i, Spec.lin (xL V c (y 0)) (xW V c) (xB V c) t i * xQ V c i j) (y 1) (y 2)

/-- The result array. -/
theorem arr_11 (w1 w2 : Fin 1024 → Fin 64 → Fin 3 → EReal)
    (h4 : ∀ (a : Fin 2) (q : Fin 4) (r : Fin 768) (i : Fin 256), V c main_v3_3 (ix4 a q r i) = Spec.tab (if a.val = 0 then w1 else w2) q r i)
    (b : Fin 4) (m : Fin 100) (t : Fin 1024) :
    (dat V c).arrAt 11 cfg1.N (ix3 b m t) = Spec.tail w1 (xC1 V c) w2 (xC2 V c) (xG V c) (xS V c) (xWm V c) (xBm V c)
      (fun t j => ∑ i, Spec.lin (xL V c b) (xW V c) (xB V c) t i * xQ V c i j) m t := by
  have h : (dat V c).arrAt 11 cfg1.N = outG V c w1 w2 := by
    refine (dat V c).arrAt_eq_of_covers 11 _ (by decide +kernel) fun t hf y => ?_
    have ht : t.val % 2 = 1 := (flush1_11 t).mp hf
    have h8 := lt8 t
    blk_simp
    rw [after_11]
    obtain ⟨z, m, s, rfl⟩ : ∃ (z : Fin 1) (m : Fin 100) (s : Fin 1024), y = ix3 z m s := ⟨y 0, y 1, y 2, eq_ix3 _⟩
    obtain rfl : z = 0 := Subsingleton.elim _ _
    unfold outAt
    refine (MainVal.outVal_apply _ _ _ _ _ _ _ _ _ _ _ _ w1 w2 (fun t' j => ∑ i, Spec.lin (xL V c ⟨t.val / 2, by omega⟩) (xW V c) (xB V c) t' i * xQ V c i j)
      (fun q r i => (iblk_4 V c t 0 q r i).trans (h4 0 q r i)) (fun q r i => (iblk_4 V c t 1 q r i).trans (h4 1 q r i)) (fun t' j => ?_) m s).trans ?_
    · exact Finset.sum_congr rfl fun i _ => congrArg₂ (· * ·) (proj_apply V c t ht t' i) (iblk_3 V c t i j)
    · rw [emb_11 t 0 m s]
      have i5 : (fun j => (iblk V c 5 t : Vec Ideal S1x1024 .f32) (ix2 0 j)) = xC1 V c := funext fun j => iblk_5 V c t 0 j
      have i6 : (fun j => (iblk V c 6 t : Vec Ideal S1x1024 .f32) (ix2 0 j)) = xC2 V c := funext fun j => iblk_6 V c t 0 j
      have i7 : (fun j => (iblk V c 7 t : Vec Ideal S1x1024 .f32) (ix2 0 j)) = xG V c := funext fun j => iblk_7 V c t 0 j
      have i8 : (fun j => (iblk V c 8 t : Vec Ideal S1x1024 .f32) (ix2 0 j)) = xS V c := funext fun j => iblk_8 V c t 0 j
      have i9 : (fun m j => (iblk V c 9 t : Vec Ideal S100x1024 .bf16) (ix2 m j)) = xWm V c := funext fun m => funext fun j => iblk_9 V c t m j
      have i10 : (fun m => (iblk V c 10 t : Vec Ideal S100x1 .f32) (ix2 m 0)) = xBm V c := funext fun m => iblk_10 V c t m 0
      rw [i5, i6, i7, i8, i9, i10]
      rfl
  rw [h]; rfl

end Cert.MainArr

end
-- ==== Proof.HostVal.lean ====
/- What the two calls are entered with, element by element, in terms of the program's arguments. -/
module

public import proofs.«01_k».proof.Proof.KernelIdeal.Launch
public import proofs.«01_k».proof.Proof.PrepArr
public import proofs.«01_k».proof.Proof.MainArr
public import Idealize.ShloMosaic.Lib.Pointwise

@[expose] public section

set_option maxRecDepth 16384

noncomputable section

namespace Cert.HostVal

open Cert.KernelIdeal Cert.KernelIdeal.Gen Cert.KernelIdeal.Run
open Idealize.ShloMosaic Idealize.ShloMosaic.TcCoe

variable (m : (ℓ : Loc nD τ sig) → Buf (Elt Ideal) ℓ) (ρ : Dev nD → PrngReg) (c : Dev nD)

/-- The argument buffer `a` at launch. -/
abbrev arg (a : Ref sig .tc) : Buf (Elt Ideal) ((c : Thread nD τ).loc a) := m ((c : Thread nD τ).loc a)

/-! ## Call 0 -/

/-- Before call 0, `main_v0` is the seventh argument as one row. -/
theorem v0_eq : V1 m ρ c main_v0 = shapeCast S1x1024 (arg m c main_arg7) shapeCasts_S1024_S1x1024 := by
  show StableHlo.after hostOps0 (W0 m ρ c) (Proc.devRef .tc main_v0) = _
  after_results_simp
  rfl
/-- Before call 0, `main_v1` is the eighth argument with its last two axes merged. -/
theorem v1_eq : V1 m ρ c main_v1 = shapeCast S1024x192 (arg m c main_arg8) shapeCasts_S1024x64x3_S1024x192 := by
  show StableHlo.after hostOps0 (W0 m ρ c) (Proc.devRef .tc main_v1) = _
  after_results_simp
  rfl
/-- Before call 0, `main_v2` is the tenth argument with its last two axes merged. -/
theorem v2_eq : V1 m ρ c main_v2 = shapeCast S1024x192 (arg m c main_arg10) shapeCasts_S1024x64x3_S1024x192 := by
  show StableHlo.after hostOps0 (W0 m ρ c) (Proc.devRef .tc main_v2) = _
  after_results_simp
  rfl

/-- A row made of a vector, at an index. -/
theorem row_apply (x : (⟨S1024, .f32⟩ : BufTy).Contents (Elt Ideal)) (j : Fin 1024) :
    shapeCast S1x1024 x shapeCasts_S1024_S1x1024 (ix2 0 j) = x (ix1 j) := by
  pointwise
/-- A column made of a vector, at an index. -/
theorem col_apply (x : (⟨S100, .f32⟩ : BufTy).Contents (Elt Ideal)) (j : Fin 100) :
    shapeCast S100x1 x shapeCasts_S100_S100x1 (ix2 j 0) = x (ix1 j) := by
  pointwise
/-- The merged axes of a convolution's weights, at an index. -/
theorem merge_apply (x : (⟨S1024x64x3, .f32⟩ : BufTy).Contents (Elt Ideal)) (o : Fin 1024) (i : Fin 64) (t : Fin 3) (h : i.val * 3 + t.val < 192) :
    shapeCast S1024x192 x shapeCasts_S1024x64x3_S1024x192 (ix2 o ⟨i.val * 3 + t.val, h⟩) = x (ix3 o i t) := by
  pointwise

/-! ## Call 1 -/

/-- Before call 1 an argument is as at launch. -/
theorem w2_arg (a : Ref sig .tc) (h : a ∈ argList) : W2 m ρ c (Proc.devRef .tc a) = arg m c a :=
  (W2_of m ρ c a (args_in0 a h)).trans (W1_arg m ρ c a h)

theorem v4_eq : V3 m ρ c main_v4 = shapeCast S1x1024 (arg m c main_arg3) shapeCasts_S1024_S1x1024 := by
  rw [← w2_arg m ρ c main_arg3 (by decide)]
  show StableHlo.after hostOps1 (W2 m ρ c) (Proc.devRef .tc main_v4) = _
  after_results_simp
  rfl
theorem v5_eq : V3 m ρ c main_v5 = shapeCast S1x1024 (arg m c main_arg9) shapeCasts_S1024_S1x1024 := by
  rw [← w2_arg m ρ c main_arg9 (by decide)]
  show StableHlo.after hostOps1 (W2 m ρ c) (Proc.devRef .tc main_v5) = _
  after_results_simp
  rfl
theorem v6_eq : V3 m ρ c main_v6 = shapeCast S1x1024 (arg m c main_arg11) shapeCasts_S1024_S1x1024 := by
  rw [← w2_arg m ρ c main_arg11 (by decide)]
  show StableHlo.after hostOps1 (W2 m ρ c) (Proc.devRef .tc main_v6) = _
  after_results_simp
  rfl
theorem v7_eq : V3 m ρ c main_v7 = shapeCast S1x1024 (arg m c main_arg12) shapeCasts_S1024_S1x1024 := by
  rw [← w2_arg m ρ c main_arg12 (by decide)]
  show StableHlo.after hostOps1 (W2 m ρ c) (Proc.devRef .tc main_v7) = _
  after_results_simp
  rfl
theorem v8_eq : V3 m ρ c main_v8 = shapeCast S1x1024 (arg m c main_arg13) shapeCasts_S1024_S1x1024 := by
  rw [← w2_arg m ρ c main_arg13 (by decide)]
  show StableHlo.after hostOps1 (W2 m ρ c) (Proc.devRef .tc main_v8) = _
  after_results_simp
  rfl
theorem v9_eq : V3 m ρ c main_v9 = shapeCast S100x1 (arg m c main_arg15) shapeCasts_S100_S100x1 := by
  rw [← w2_arg m ρ c main_arg15 (by decide)]
  show StableHlo.after hostOps1 (W2 m ρ c) (Proc.devRef .tc main_v9) = _
  after_results_simp
  rfl

/-- Call 1 reads call 0's first result. -/
theorem q_eq : V3 m ρ c main_v3_0 = (Prep.dat (V1 m ρ) c).arrAt 8 cfg0.N :=
  (W3_of m ρ c main_v3_0 (by decide)).trans (W2_arr m ρ c 8)
/-- Call 1 reads call 0's second result. -/
theorem win_eq : V3 m ρ c main_v3_1 = (Prep.dat (V1 m ρ) c).arrAt 9 cfg0.N :=
  (W3_of m ρ c main_v3_1 (by decide)).trans (W2_arr m ρ c 9)
/-- Call 1 reads call 0's third result. -/
theorem wm_eq : V3 m ρ c main_v3_2 = (Prep.dat (V1 m ρ) c).arrAt 10 cfg0.N :=
  (W3_of m ρ c main_v3_2 (by decide)).trans (W2_arr m ρ c 10)
/-- Call 1 reads call 0's fourth result. -/
theorem tab_eq : V3 m ρ c main_v3_3 = (Prep.dat (V1 m ρ) c).arrAt 11 cfg0.N :=
  (W3_of m ρ c main_v3_3 (by decide)).trans (W2_arr m ρ c 11)

/-- An argument before call 0. -/
theorem v1_arg (a : Ref sig .tc) (h : a ∈ argList) : V1 m ρ c a = arg m c a := W1_arg m ρ c a h
/-- An argument before call 1. -/
theorem v3_arg (a : Ref sig .tc) (h : a ∈ argList) : V3 m ρ c a = arg m c a := W3_arg m ρ c a h

end Cert.HostVal

end
-- ==== Proof.Algebraic.lean ====
/- The idealized kernel's result is the idealized reference's, for finite arguments. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.RefVal
public import proofs.«01_k».proof.Proof.RefEq
public import proofs.«01_k».proof.Proof.HostVal

@[expose] public section

set_option maxRecDepth 16384

noncomputable section

namespace Cert.Algebraic

open Cert.KernelIdeal Cert.KernelIdeal.Gen Cert.KernelIdeal.Run Cert.HostVal
open Idealize.ShloMosaic Idealize.ShloMosaic.TcCoe Idealize.SL.Sem

/-! ## What the precondition says -/

/-- The shapes the precondition broadcasts its bound to. -/
instance preFacts : Cert.Pre_inputs_finite.Facts where
  bcast_S_S4x1024x3072 := by decide
  bcast_S_S1024x3072 := by decide
  bcast_S_S1024 := by decide
  bcast_S_S1024x1024 := by decide

/-- A magnitude below infinity is a real number's. -/
theorem fin_of (x : Ideal .f32)
    (h : FloatOps.cmpf .olt (FloatOps.hostAbsf x) (FloatOps.ofBits (F := Ideal) .f32 0x7F800000#32) = 1#1) : Spec.Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    unfold Ideal.cmp at h'
    simp [hn] at h'
  rw [max_lt_iff] at hlt
  have h1 : (x : EReal) ≠ ⊤ := hlt.1.ne
  have h2 : (x : EReal) ≠ ⊥ := fun e => by
    have := hlt.2
    rw [e] at this
    simp at this
  exact ⟨EReal.toReal x, (EReal.coe_toReal h1 h2).symm⟩

variable (m : (ℓ : Loc nD τ sig) → Buf (Elt Ideal) ℓ) (ρ : Dev nD → PrngReg) (c : Dev nD)

/-- The images are finite. -/
theorem fin_0 (h : Cert.Pre_KernelIdeal_inputs_finite m) (a : Fin 4) (b : Fin 1024) (d : Fin 3072) : Spec.Fin' (arg m c main_arg0 (ix3 a b d)) :=
  fin_of _ (congrFun (h c).1 (ix3 a b d))
/-- The input projection's weights are finite. -/
theorem fin_2 (h : Cert.Pre_KernelIdeal_inputs_finite m) (a : Fin 1024) (b : Fin 3072) : Spec.Fin' (arg m c main_arg2 (ix2 a b)) :=
  fin_of _ (congrFun (h c).2.1 (ix2 a b))
/-- The input projection's bias are finite. -/
theorem fin_3 (h : Cert.Pre_KernelIdeal_inputs_finite m) (a : Fin 1024) : Spec.Fin' (arg m c main_arg3 (ix1 a)) :=
  fin_of _ (congrFun (h c).2.2.1 (ix1 a))
/-- The basis are finite. -/
theorem fin_4 (h : Cert.Pre_KernelIdeal_inputs_finite m) (a b : Fin 1024) : Spec.Fin' (arg m c main_arg4 (ix2 a b)) :=
  fin_of _ (congrFun (h c).2.2.2.1 (ix2 a b))
/-- The decoder's weights are finite. -/
theorem fin_6 (h : Cert.Pre_KernelIdeal_inputs_finite m) (a : Fin 1024) (b : Fin 3072) : Spec.Fin' (arg m c main_arg6 (ix2 a b)) :=
  fin_of _ (congrFun (h c).2.2.2.2.1 (ix2 a b))
/-- The decoder's bias are finite. -/
theorem fin_7 (h : Cert.Pre_KernelIdeal_inputs_finite m) (a : Fin 1024) : Spec.Fin' (arg m c main_arg7 (ix1 a)) :=
  fin_of _ (congrFun (h c).2.2.2.2.2 (ix1 a))

/-! ## The kernel's result -/

/-- The images' projection, in the arguments. -/
abbrev X (b : Fin 4) : Fin 1024 → Fin 1024 → EReal :=
  Spec.lin (fun t k => arg m c main_arg0 (ix3 b t k)) (fun j k => arg m c main_arg2 (ix2 j k)) (fun j => arg m c main_arg3 (ix1 j))
/-- The basis. -/
abbrev P : Fin 1024 → Fin 1024 → EReal := fun i j => arg m c main_arg4 (ix2 i j)
/-- The projected window. -/
abbrev D : Fin 1024 → Fin 1024 → EReal :=
  Spec.lin (fun i k => arg m c main_arg2 (ix2 i k)) (fun j k => arg m c main_arg6 (ix2 j k)) (fun j => arg m c main_arg7 (ix1 j))
/-- The gated matrix. -/
abbrev M : Fin 1024 → Fin 1024 → EReal := Spec.gated (D m c) (P m c) (fun i j => arg m c main_arg5 (ix2 i j))
/-- The first convolution's weights. -/
abbrev w1 : Fin 1024 → Fin 64 → Fin 3 → EReal := fun o i t => arg m c main_arg8 (ix3 o i t)
/-- The second convolution's weights. -/
abbrev w2 : Fin 1024 → Fin 64 → Fin 3 → EReal := fun o i t => arg m c main_arg10 (ix3 o i t)

/-- The projected window as call 0 reads it. -/
theorem W_eq : PrepArr.W (V1 m ρ) c = D m c := by
  have hW : PrepArr.xW (V1 m ρ) c = fun i k => arg m c main_arg2 (ix2 i k) := by
    funext i k; exact congrFun (v1_arg m ρ c main_arg2 (by decide)) _
  have hD : PrepArr.xD (V1 m ρ) c = fun i k => arg m c main_arg6 (ix2 i k) := by
    funext i k; exact congrFun (v1_arg m ρ c main_arg6 (by decide)) _
  have hB : PrepArr.xB (V1 m ρ) c = fun j => arg m c main_arg7 (ix1 j) := by
    funext j; exact (congrFun (v0_eq m ρ c) _).trans (row_apply _ j)
  funext i j
  unfold PrepArr.W
  rw [hW, hD, hB]

/-- The folded projection call 1 reads. -/
theorem Q_eq : MainArr.xQ (V3 m ρ) c = fun i j => ∑ k, (∑ e, P m c i e * M m c k e) * P m c j k := by
  have hP : PrepArr.xP (V1 m ρ) c = P m c := by
    funext i k; exact congrFun (v1_arg m ρ c main_arg4 (by decide)) _
  have hM : PrepArr.xM (V1 m ρ) c = fun i k => arg m c main_arg5 (ix2 i k) := by
    funext i k; exact congrFun (v1_arg m ρ c main_arg5 (by decide)) _
  funext i j
  refine ((congrFun (q_eq m ρ c) _).trans (PrepArr.arr_8 (V1 m ρ) c i j)).trans ?_
  unfold PrepArr.fold
  rw [hP, hM, W_eq]

/-- The regrouped weights call 1 reads. -/
theorem tab_apply (a : Fin 2) (q : Fin 4) (r : Fin 768) (i : Fin 256) :
    V3 m ρ c main_v3_3 (ix4 a q r i) = Spec.tab (if a.val = 0 then w1 m c else w2 m c) q r i :=
  (congrFun (tab_eq m ρ c) _).trans (PrepArr.arr_11 (V1 m ρ) c (w1 m c) (w2 m c)
    (fun o i t => (congrFun (v1_eq m ρ c) _).trans (merge_apply _ o i t _))
    (fun o i t => (congrFun (v2_eq m ρ c) _).trans (merge_apply _ o i t _)) a q r i)

/-- The kernel's result at an index, in the arguments. -/
theorem kernel_apply (b : Fin 4) (k : Fin 100) (t : Fin 1024) :
    W4 m ρ c (Proc.devRef .tc main_v10) (ix3 b k t) =
      Spec.tail (w1 m c) (fun j => arg m c main_arg9 (ix1 j)) (w2 m c) (fun j => arg m c main_arg11 (ix1 j)) (fun j => arg m c main_arg12 (ix1 j))
        (fun j => arg m c main_arg13 (ix1 j)) (fun k j => arg m c main_arg14 (ix2 k j)) (fun k => arg m c main_arg15 (ix1 k))
        (Spec.mixKer (X m c b) (P m c) (M m c)) k t := by
  have hL : MainArr.xL (V3 m ρ) c b = fun t k => arg m c main_arg0 (ix3 b t k) := by
    funext i k; exact congrFun (v3_arg m ρ c main_arg0 (by decide)) _
  have hW : MainArr.xW (V3 m ρ) c = fun i k => arg m c main_arg2 (ix2 i k) := by
    funext i k
    exact ((congrFun (win_eq m ρ c) _).trans (PrepArr.arr_9 (V1 m ρ) c i k)).trans (congrFun (v1_arg m ρ c main_arg2 (by decide)) _)
  have hWm : MainArr.xWm (V3 m ρ) c = fun i k => arg m c main_arg14 (ix2 i k) := by
    funext i k
    exact ((congrFun (wm_eq m ρ c) _).trans (PrepArr.arr_10 (V1 m ρ) c i k)).trans (congrFun (v1_arg m ρ c main_arg14 (by decide)) _)
  have hB : MainArr.xB (V3 m ρ) c = fun j => arg m c main_arg3 (ix1 j) := by
    funext j; exact (congrFun (v4_eq m ρ c) _).trans (row_apply _ j)
  have hC1 : MainArr.xC1 (V3 m ρ) c = fun j => arg m c main_arg9 (ix1 j) := by
    funext j; exact (congrFun (v5_eq m ρ c) _).trans (row_apply _ j)
  have hC2 : MainArr.xC2 (V3 m ρ) c = fun j => arg m c main_arg11 (ix1 j) := by
    funext j; exact (congrFun (v6_eq m ρ c) _).trans (row_apply _ j)
  have hG : MainArr.xG (V3 m ρ) c = fun j => arg m c main_arg12 (ix1 j) := by
    funext j; exact (congrFun (v7_eq m ρ c) _).trans (row_apply _ j)
  have hS : MainArr.xS (V3 m ρ) c = fun j => arg m c main_arg13 (ix1 j) := by
    funext j; exact (congrFun (v8_eq m ρ c) _).trans (row_apply _ j)
  have hBm : MainArr.xBm (V3 m ρ) c = fun j => arg m c main_arg15 (ix1 j) := by
    funext j; exact (congrFun (v9_eq m ρ c) _).trans (col_apply _ j)
  refine ((congrFun (W4_arr m ρ c 11) _).trans
    (MainArr.arr_11 (V3 m ρ) c (w1 m c) (w2 m c) (tab_apply m ρ c) b k t)).trans ?_
  rw [hL, hW, hB, hC1, hC2, hG, hS, hWm, hBm, Q_eq]
  rfl

/-- The kernel's result is the reference's function of the arguments. -/
theorem kernel_eq (h : Cert.Pre_KernelIdeal_inputs_finite m) :
    W4 m ρ c (Proc.devRef .tc main_v10) = Cert.RefVal.refR (arg m c main_arg0) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  funext y
  obtain ⟨b, k, t, rfl⟩ : ∃ (b : Fin 4) (k : Fin 100) (t : Fin 1024), y = ix3 b k t := ⟨y 0, y 1, y 2, eq_ix3 _⟩
  have hX : ∀ t i, Spec.Fin' (X m c b t i) := fun t i =>
    Spec.lin_fin _ _ _ (fun t k => fin_0 m c h b t k) (fun j k => fin_2 m c h j k) (fun j => fin_3 m c h j) t i
  have hD : ∀ i j, Spec.Fin' (D m c i j) := fun i j =>
    Spec.lin_fin _ _ _ (fun i k => fin_2 m c h i k) (fun j k => fin_6 m c h j k) (fun j => fin_7 m c h j) i j
  have hP : ∀ i j, Spec.Fin' (P m c i j) := fun i j => fin_4 m c h i j
  have hM : ∀ i j, Spec.Fin' (M m c i j) := fun i j => Spec.gated_fin _ _ _ hD hP i j
  refine (kernel_apply m ρ c b k t).trans ?_
  rw [← Spec.mix_eq (X m c b) (P m c) (M m c) hX hP hM]
  exact (Cert.RefVal.refR_apply (arg m c main_arg0) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) b k t).symm

/-! ## The two runs -/

/-- From finite arguments the idealized kernel and the idealized reference both run, end with the same result, and leave their arguments unchanged. -/
theorem algebraic : Cert.algebraic_KernelIdeal_ReferenceIdeal_pre_inputs_finite := by
  intro m g m' g' hpre hagree
  refine ⟨fun c => W4 m g c (Proc.devRef .tc main_v10), ?_, ?_⟩
  · exact (θ_run Cert.KernelIdeal.defs _ _).mono (fun r h => h.1) (Cert.KernelIdeal.Run.run m g)
  · refine (θ_run Cert.ReferenceIdeal.defs _ _).mono (fun r h c => ⟨((h c).1.trans
      (Cert.ReferenceIdeal.Read.val_main_v117_eq (F := Ideal) (StableHlo.launchContents m' c))).trans ?_, (h c).2⟩) (Cert.ReferenceIdeal.Value.run m' g')
    refine Eq.trans ?_ (kernel_eq m g c hpre).symm
    obtain ⟨h0, h1, h2, h3, h4, h5, h6, h7, h8, h9, h10, h11, h12, h13, h14, h15⟩ := hagree c
    refine Eq.trans ?_ (Cert.RefVal.refR_eq (arg m c main_arg0) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15))
    show Cert.ReferenceIdeal.Read.val_main_v117 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
    rw [h0, h2, h3, h4, h5, h6, h7, h8, h9, h10, h11, h12, h13, h14, h15]

end Cert.Algebraic

end
-- ==== Proof.lean ====
/- The claims, put together: the two programs' runs, the constant's naming, and that the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.Algebraic

@[expose] public section

noncomputable section

namespace Cert.Proof

open Idealize.ShloMosaic Idealize.SL.Sem

/-- The kernel's program ends with its arguments unchanged and every semaphore counter at zero. -/
theorem frame_kernel : Cert.quiescent_Kernel := by
  intro m ρ _
  exact (θ_run Cert.Kernel.defs _ _).mono (fun r h => ⟨fun c => (h.1 c).2, h.2⟩) (Cert.Kernel.Run.run m ρ)

/-- So does the idealized kernel's. -/
theorem frame_kernelIdeal : Cert.quiescent_KernelIdeal := by
  intro m ρ _
  exact (θ_run Cert.KernelIdeal.defs _ _).mono (fun r h => ⟨fun c => (h.1 c).2, h.2⟩) (Cert.KernelIdeal.Run.run m ρ)

/-- So does the idealized reference's; it declares no semaphore. -/
theorem frame_referenceIdeal : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The named constant: what was printed rounds the root's inverse. -/
theorem preserves : Cert.preserves_Kernel_KernelIdeal :=
  IdealRules.named_const.statement Cert.KernelIdeal.κ "inv_sqrt2" .f32 0x3F3504F3#32 (((Real.sqrt 2)⁻¹ : ℝ) : EReal) rfl

/-- Everything claimed. -/
theorem claim : Cert.Claim :=
  ⟨Cert.Kernel.Gen.facts, Cert.KernelIdeal.Gen.facts, Cert.ReferenceIdeal.Gen.facts, Cert.Algebraic.preFacts,
    frame_kernel, frame_kernelIdeal, fun m ρ _ => frame_kernelIdeal m ρ trivial, frame_referenceIdeal, fun m ρ _ => frame_referenceIdeal m ρ trivial,
    preserves, Cert.Algebraic.algebraic⟩

end Cert.Proof

end
